-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![4096, 2048]⟩ ⟨2, ![8192, 2048]⟩ (Layout.meshBlock [2, 2, 2] ![[0], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![8192, 1024]⟩ ⟨2, ![8192, 2048]⟩ (Layout.meshBlock [2, 2, 2] ![[], [0]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4096x2048 : Shape := ⟨2, ![4096, 2048]⟩
abbrev S8192x1024 : Shape := ⟨2, ![8192, 1024]⟩
abbrev S2x512x1024 : Shape := ⟨3, ![2, 512, 1024]⟩
abbrev S8x512x1024 : Shape := ⟨3, ![8, 512, 1024]⟩
abbrev S2 : Shape := ⟨1, ![2]⟩
abbrev S8 : Shape := ⟨1, ![8]⟩
abbrev S_ : Shape := ⟨0, ![]⟩
abbrev S4096x1024 : Shape := ⟨2, ![4096, 1024]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x2048, .bf16⟩
  | .hbm, ⟨1, _⟩ => ⟨S8192x1024, .bf16⟩
  | .local _ .vmem, ⟨0, _⟩ => ⟨S2x512x1024, .bf16⟩
  | .local _ .vmem, ⟨1, _⟩ => ⟨S2x512x1024, .bf16⟩
  | .local _ .vmem, ⟨2, _⟩ => ⟨S8x512x1024, .bf16⟩
  | .local _ .vmem, ⟨3, _⟩ => ⟨S2x512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v18 : BitVec 32 := Scalar.muli v2 c4096_i32
  let c0_i32_9 : BitVec 32 := 0#32
  ![v18.toNat, 0]
def k0_off2 (d0 : Dev nD) : Fin 2 → Nat :=
  let c0_i32_10 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v17 : BitVec 32 := Scalar.muli v2 c1024_i32
  ![0, v17.toNat]
def k0_off3 (d0 : Dev nD) : Fin 2 → Nat :=
  let c0_i32_16 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c1024_i32_11 : BitVec 32 := 1024#32
  let v21 : BitVec 32 := Scalar.muli v9 c1024_i32_11
  ![0, v21.toNat]
def k0_off4 (d0 : Dev nD) : Fin 2 → Nat :=
  let c512_i32 : BitVec 32 := 512#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c1024_i32_17 : BitVec 32 := 1024#32
  let v27 : BitVec 32 := Scalar.muli v9 c1024_i32_17
  ![512, v27.toNat]
def k0_dev2 (d0 : Dev nD) : Nat :=
  let c0_i32_38 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_37 : BitVec 32 := 4#32
  let v44 : BitVec 32 := Scalar.muli v9 c4_i32_37
  let v45 : BitVec 32 := Scalar.addi c0_i32_38 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v46 : BitVec 32 := Scalar.muli v5 c2_i32_39
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v48 : BitVec 32 := Scalar.muli v8 c1_i32_40
  let v49 : BitVec 32 := Scalar.addi v47 v48
  v49.toNat
def k0_off5 (d0 : Dev nD) : Fin 2 → Nat :=
  let c1024_i32_50 : BitVec 32 := 1024#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c1024_i32_45 : BitVec 32 := 1024#32
  let v58 : BitVec 32 := Scalar.muli v9 c1024_i32_45
  ![1024, v58.toNat]
def k0_dev3 (d0 : Dev nD) : Nat :=
  let c0_i32_67 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_66 : BitVec 32 := 4#32
  let v75 : BitVec 32 := Scalar.muli v9 c4_i32_66
  let v76 : BitVec 32 := Scalar.addi c0_i32_67 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v77 : BitVec 32 := Scalar.muli v5 c2_i32_68
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v79 : BitVec 32 := Scalar.muli v8 c1_i32_69
  let v80 : BitVec 32 := Scalar.addi v78 v79
  v80.toNat
def k0_off6 (d0 : Dev nD) : Fin 2 → Nat :=
  let c1536_i32 : BitVec 32 := 1536#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c1024_i32_74 : BitVec 32 := 1024#32
  let v89 : BitVec 32 := Scalar.muli v9 c1024_i32_74
  ![1536, v89.toNat]
def k0_dev4 (d0 : Dev nD) : Nat :=
  let c0_i32_105 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_104 : BitVec 32 := 4#32
  let v112 : BitVec 32 := Scalar.muli v9 c4_i32_104
  let v113 : BitVec 32 := Scalar.addi c0_i32_105 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v114 : BitVec 32 := Scalar.muli v5 c2_i32_106
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v116 : BitVec 32 := Scalar.muli v8 c1_i32_107
  let v117 : BitVec 32 := Scalar.addi v115 v116
  v117.toNat
def k0_off7 (d0 : Dev nD) : Fin 2 → Nat :=
  let c2048_i32 : BitVec 32 := 2048#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c1024_i32_112 : BitVec 32 := 1024#32
  let v126 : BitVec 32 := Scalar.muli v9 c1024_i32_112
  ![2048, v126.toNat]
def k0_dev5 (d0 : Dev nD) : Nat :=
  let c0_i32_142 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_141 : BitVec 32 := 4#32
  let v149 : BitVec 32 := Scalar.muli v9 c4_i32_141
  let v150 : BitVec 32 := Scalar.addi c0_i32_142 v149
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v151 : BitVec 32 := Scalar.muli v5 c2_i32_143
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v153 : BitVec 32 := Scalar.muli v8 c1_i32_144
  let v154 : BitVec 32 := Scalar.addi v152 v153
  v154.toNat
def k0_off8 (d0 : Dev nD) : Fin 2 → Nat :=
  let c2560_i32 : BitVec 32 := 2560#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c1024_i32_149 : BitVec 32 := 1024#32
  let v163 : BitVec 32 := Scalar.muli v9 c1024_i32_149
  ![2560, v163.toNat]
def k0_dev6 (d0 : Dev nD) : Nat :=
  let c0_i32_180 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_179 : BitVec 32 := 4#32
  let v186 : BitVec 32 := Scalar.muli v9 c4_i32_179
  let v187 : BitVec 32 := Scalar.addi c0_i32_180 v186
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_181 : BitVec 32 := 2#32
  let v188 : BitVec 32 := Scalar.muli v5 c2_i32_181
  let v189 : BitVec 32 := Scalar.addi v187 v188
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_182 : BitVec 32 := 1#32
  let v190 : BitVec 32 := Scalar.muli v8 c1_i32_182
  let v191 : BitVec 32 := Scalar.addi v189 v190
  v191.toNat
def k0_off9 (d0 : Dev nD) : Fin 2 → Nat :=
  let c3072_i32 : BitVec 32 := 3072#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c1024_i32_187 : BitVec 32 := 1024#32
  let v200 : BitVec 32 := Scalar.muli v9 c1024_i32_187
  ![3072, v200.toNat]
def k0_dev7 (d0 : Dev nD) : Nat :=
  let c0_i32_217 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_216 : BitVec 32 := 4#32
  let v223 : BitVec 32 := Scalar.muli v9 c4_i32_216
  let v224 : BitVec 32 := Scalar.addi c0_i32_217 v223
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_218 : BitVec 32 := 2#32
  let v225 : BitVec 32 := Scalar.muli v5 c2_i32_218
  let v226 : BitVec 32 := Scalar.addi v224 v225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v227 : BitVec 32 := Scalar.muli v8 c1_i32_219
  let v228 : BitVec 32 := Scalar.addi v226 v227
  v228.toNat
def k0_off10 (d0 : Dev nD) : Fin 2 → Nat :=
  let c3584_i32 : BitVec 32 := 3584#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c1024_i32_224 : BitVec 32 := 1024#32
  let v237 : BitVec 32 := Scalar.muli v9 c1024_i32_224
  ![3584, v237.toNat]
def k0_dev8 (d0 : Dev nD) : Nat :=
  let c0_i32_254 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_253 : BitVec 32 := 4#32
  let v260 : BitVec 32 := Scalar.muli v9 c4_i32_253
  let v261 : BitVec 32 := Scalar.addi c0_i32_254 v260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_255 : BitVec 32 := 2#32
  let v262 : BitVec 32 := Scalar.muli v5 c2_i32_255
  let v263 : BitVec 32 := Scalar.addi v261 v262
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_256 : BitVec 32 := 1#32
  let v264 : BitVec 32 := Scalar.muli v8 c1_i32_256
  let v265 : BitVec 32 := Scalar.addi v263 v264
  v265.toNat
def k0_dev9 (d0 : Dev nD) : Nat :=
  let c0_i32_286 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_285 : BitVec 32 := 4#32
  let v291 : BitVec 32 := Scalar.muli v9 c4_i32_285
  let v292 : BitVec 32 := Scalar.addi c0_i32_286 v291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_287 : BitVec 32 := 2#32
  let v293 : BitVec 32 := Scalar.muli v5 c2_i32_287
  let v294 : BitVec 32 := Scalar.addi v292 v293
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_288 : BitVec 32 := 1#32
  let v295 : BitVec 32 := Scalar.muli v8 c1_i32_288
  let v296 : BitVec 32 := Scalar.addi v294 v295
  v296.toNat
def k0_off11 (d0 : Dev nD) (c0_i32_312 : BitVec 32) : Fin 2 → Nat :=
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4096_i32_311 : BitVec 32 := 4096#32
  let v322 : BitVec 32 := Scalar.muli v9 c4096_i32_311
  let v323 : BitVec 32 := Scalar.addi v322 c0_i32_312
  let c0_i32_315 : BitVec 32 := 0#32
  ![v323.toNat, 0]
-- ==== Reference.lean ====
abbrev S8192x2048 : Shape := ⟨2, ![8192, 2048]⟩

abbrev nBuf : Space → Nat
  | .hbm => 1
  | .vmem => 0
  | .smem => 0
  | _ => 0

abbrev bufTy : (tb : Table) → Fin (tcTables nBuf tb) → BufTy
  | .hbm, ⟨0, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Program.lean ====
/-
The kernel's program, written as eight send steps followed by eight receive steps.

Each device cuts the half of its rows' columns that belongs to its partner into eight blocks of 512 rows. The
definitions below name, for a block number and a buffer slot, the views and semaphores the program uses, and give the
program's pieces with the rest of the program as a last argument. `body_eq` states that the printed body is these
pieces in order.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.AllToAll

open Cert.KernelIdeal Cert.KernelIdeal.Gen
open Idealize.ShloMosaic Idealize.ShloMosaic.TcCoe
open Idealize.SL Idealize.SL.Sem

variable {F : FTy → Type} [FloatOps F]

/-! ## Buffers, slots and semaphores -/

/-- The device's rows of the input. -/
abbrev xM : Memref sig .tc .hbm S4096x2048 .bf16 := Memref.whole main_arg0
/-- The device's columns of the result. -/
abbrev yM : Memref sig .tc .hbm S8192x1024 .bf16 := Memref.whole main_v1
/-- The two slots blocks of the input are copied into. -/
abbrev aM : Memref sig .tc .vmem S2x512x1024 .bf16 := Memref.whole cc0_scratch0
/-- The two slots blocks are sent from. -/
abbrev bM : Memref sig .tc .vmem S2x512x1024 .bf16 := Memref.whole cc0_scratch1
/-- The eight slots the partner's blocks arrive in. -/
abbrev rM : Memref sig .tc .vmem S8x512x1024 .bf16 := Memref.whole cc0_scratch2
/-- The two slots blocks are copied to the result from. -/
abbrev oM : Memref sig .tc .vmem S2x512x1024 .bf16 := Memref.whole cc0_scratch3

/-- The slot a block uses in a buffer of two. -/
def par (j : Fin 8) : Fin 2 := ⟨j.val % 2, Nat.mod_lt _ (by decide)⟩

theorem slot2_inb : ∀ (s : Fin 2) a, (![s.val, 0, 0] : Fin 3 → Nat) a + S1x512x1024.size a ≤ S2x512x1024.size a := by decide
theorem slot8_inb : ∀ (j : Fin 8) a, (![j.val, 0, 0] : Fin 3 → Nat) a + S1x512x1024.size a ≤ S8x512x1024.size a := by decide
theorem sem2_inb : ∀ (s : Fin 2) a, (![s.val] : Fin 1 → Nat) a + S1.size a ≤ S2.size a := by decide
theorem sem8_inb : ∀ (j : Fin 8) a, (![j.val] : Fin 1 → Nat) a + S1.size a ≤ S8.size a := by decide

/-- Slot `s` of a buffer of two. -/
abbrev slot2 (s : Fin 2) : Rect S2x512x1024 := Rect.unit (s := S2x512x1024) ![s.val, 0, 0] S1x512x1024.size (slot2_inb s)
/-- Slot `j` of a buffer of eight. -/
abbrev slot8 (j : Fin 8) : Rect S8x512x1024 := Rect.unit (s := S8x512x1024) ![j.val, 0, 0] S1x512x1024.size (slot8_inb j)

theorem slot2_words : ∀ s : Fin 2, (slot2 s).WholeWords (EltTy.packing .bf16) := by decide
theorem slot8_words : ∀ j : Fin 8, (slot8 j).WholeWords (EltTy.packing .bf16) := by decide
theorem slot2_packed : ∀ s : Fin 2, (slot2 s).PackedRows (EltTy.packing .bf16) := by decide

/-- Slot `s` of a buffer of two, as a matrix. -/
abbrev sl2 (m : Memref sig .tc .vmem S2x512x1024 .bf16) (s : Fin 2) : Memref sig .tc .vmem S512x1024 .bf16 :=
  Memref.squeeze (s := S1x512x1024) (m.slice (slot2 s) (fun _ => rfl)) S512x1024 squeezes_S1x512x1024_S512x1024
/-- Slot `j` of the receive buffer, as a matrix. -/
abbrev sl8 (m : Memref sig .tc .vmem S8x512x1024 .bf16) (j : Fin 8) : Memref sig .tc .vmem S512x1024 .bf16 :=
  Memref.squeeze (s := S1x512x1024) (m.slice (slot8 j) (fun _ => rfl)) S512x1024 squeezes_S1x512x1024_S512x1024

theorem sl2_words {m : Memref sig .tc .vmem S2x512x1024 .bf16} (hm : m.IsWhole) (s : Fin 2) : (sl2 m s).view.WordExact :=
  (hm.wordExact_slice rfl _ (slot2_words s)).reshape _ _
theorem sl8_words {m : Memref sig .tc .vmem S8x512x1024 .bf16} (hm : m.IsWhole) (j : Fin 8) : (sl8 m j).view.WordExact :=
  (hm.wordExact_slice rfl _ (slot8_words j)).reshape _ _

/-- One semaphore of a pair. -/
abbrev sm2 (a : DmaSems sig S2) (s : Fin 2) : DmaSem sig :=
  (SemArray.squeeze (s := S1) (a.slice (Rect.unit (s := S2) ![s.val] S1.size (sem2_inb s))) S_ squeezes_S1_S_).sem
/-- One semaphore of the eight of the arrivals. -/
abbrev sm8 (a : DmaSems sig S8) (j : Fin 8) : DmaSem sig :=
  (SemArray.squeeze (s := S1) (a.slice (Rect.unit (s := S8) ![j.val] S1.size (sem8_inb j))) S_ squeezes_S1_S_).sem

/-- The barrier semaphore. -/
abbrev barS : Sem sig := (SemArray.scalar (sig.barrier 0 rfl) : Sems sig S_).sem
/-- The semaphore of the copies into slot `s` of the first staging buffer. -/
def inSem (s : Fin 2) : DmaSem sig := sm2 cc0_scratch4 s
/-- The semaphore of the departures from send slot `s`. -/
def sendSem (s : Fin 2) : DmaSem sig := sm2 cc0_scratch5 s
/-- The semaphore of the arrival of block `j`. -/
def recvSem (j : Fin 8) : DmaSem sig := sm8 cc0_scratch6 j
/-- The semaphore of the copies out of slot `s` of the second staging buffer. -/
def outSem (s : Fin 2) : DmaSem sig := sm2 cc0_scratch7 s
/-- The semaphore of the device's own part. -/
def ownSem : DmaSem sig := cc0_scratch8.sem

/-! ## The blocks of the input and of the result -/

/-- Where block `j` of the partner's half lies in the input. -/
def xOff (c : Dev nD) : Fin 8 → Fin 2 → Nat
  | 0 => k0_off3 c | 1 => k0_off4 c | 2 => k0_off5 c | 3 => k0_off6 c
  | 4 => k0_off7 c | 5 => k0_off8 c | 6 => k0_off9 c | 7 => k0_off10 c

/-- The block's rows and columns in numbers. -/
theorem xOff_eq (c : Dev nD) (j : Fin 8) : xOff c j = ![512 * j.val, 1024 - 1024 * (c.val / 4)] := by
  fin_cases j
  exacts [k0_off3_eq c, k0_off4_eq c, k0_off5_eq c, k0_off6_eq c, k0_off7_eq c, k0_off8_eq c, k0_off9_eq c, k0_off10_eq c]

theorem xOff_inb (c : Dev nD) (j : Fin 8) : ∀ a, xOff c j a + S512x1024.size a ≤ S4096x2048.size a := by
  fin_cases j
  exacts [k0_off3_inb c, k0_off4_inb c, k0_off5_inb c, k0_off6_inb c, k0_off7_inb c, k0_off8_inb c, k0_off9_inb c, k0_off10_inb c]

theorem xOff_words (c : Dev nD) (j : Fin 8) :
    (Rect.unit (s := S4096x2048) (xOff c j) S512x1024.size (xOff_inb c j)).WholeWords (EltTy.packing .bf16) := by
  fin_cases j
  exacts [k0_off3_wordsbf16 c, k0_off4_wordsbf16 c, k0_off5_wordsbf16 c, k0_off6_wordsbf16 c, k0_off7_wordsbf16 c,
    k0_off8_wordsbf16 c, k0_off9_wordsbf16 c, k0_off10_wordsbf16 c]

/-- Block `j` of the partner's half of the input. -/
def xChunk (c : Dev nD) (j : Fin 8) : Memref sig .tc .hbm S512x1024 .bf16 :=
  xM.slice (Rect.unit (s := S4096x2048) (xOff c j) S512x1024.size (xOff_inb c j)) (fun _ => rfl)

theorem xChunk_words (c : Dev nD) (j : Fin 8) : (xChunk c j).view.WordExact :=
  (Memref.isWhole_whole main_arg0).wordExact_slice rfl _ (xOff_words c j)

/-- The device's own half of the input. -/
def xOwn (c : Dev nD) : Memref sig .tc .hbm S4096x1024 .bf16 :=
  xM.slice (Rect.unit (s := S4096x2048) (k0_off2 c) S4096x1024.size (k0_off2_inb c)) (fun _ => rfl)

/-- The part of the result the device's own half goes to. -/
def yOwn (c : Dev nD) : Memref sig .tc .hbm S4096x1024 .bf16 :=
  yM.slice (Rect.unit (s := S8192x1024) (k0_off1 c) S4096x1024.size (k0_off1_inb c)) (fun _ => rfl)

theorem xOwn_words (c : Dev nD) : (xOwn c).view.WordExact :=
  (Memref.isWhole_whole main_arg0).wordExact_slice rfl _ (k0_off2_wordsbf16 c)
theorem yOwn_words (c : Dev nD) : (yOwn c).view.WordExact :=
  (Memref.isWhole_whole main_v1).wordExact_slice rfl _ (k0_off1_wordsbf16 c)

/-- The part of the result the partner's block `j` goes to. -/
def yChunk (c : Dev nD) (j : Fin 8) : Memref sig .tc .hbm S512x1024 .bf16 :=
  yM.slice (Rect.unit (s := S8192x1024) (k0_off11 c (BitVec.ofNat 32 (512 * j.val))) S512x1024.size (k0_off11_inb c j)) (fun _ => rfl)

theorem yChunk_words (c : Dev nD) (j : Fin 8) : (yChunk c j).view.WordExact :=
  (Memref.isWhole_whole main_v1).wordExact_slice rfl _ (k0_off11_wordsbf16 c j)

/-- The device block `j` is sent to, as the program computes it. -/
def tgt (c : Dev nD) : Fin 8 → Dev nD
  | 0 => ⟨k0_dev2 c, k0_dev2_lt c⟩ | 1 => ⟨k0_dev3 c, k0_dev3_lt c⟩ | 2 => ⟨k0_dev4 c, k0_dev4_lt c⟩
  | 3 => ⟨k0_dev5 c, k0_dev5_lt c⟩ | 4 => ⟨k0_dev6 c, k0_dev6_lt c⟩ | 5 => ⟨k0_dev7 c, k0_dev7_lt c⟩
  | 6 => ⟨k0_dev8 c, k0_dev8_lt c⟩ | 7 => ⟨k0_dev9 c, k0_dev9_lt c⟩

/-! ## The program's pieces -/

/-- A program of the kernel. -/
abbrev KProg (F : FTy → Type) [FloatOps F] : Type 1 := Prog (TpuEff nD τ sig (Elt F) Λ₀ .tc) PUnit

/-- The block a store writes: the block read, reshaped to a matrix and back. -/
def restack (v : Vec F S1x512x1024 .bf16) : FVec F S1x512x1024 .bf16 :=
  shapeCast S1x512x1024 (shapeCast S512x1024 v shapeCasts_S1x512x1024_S512x1024) shapeCasts_S512x1024_S1x512x1024

/-- Start the copy of block `j` of the input into its staging slot. -/
def inStart (c : Dev nD) (j : Fin 8) (k : KProg F) : KProg F :=
  .op (.enqueueDma (xChunk c j) (.here (sl2 aM (par j))) (.dma (inSem (par j)))
    (xChunk_words c j) (sl2_words (Memref.isWhole_whole _) (par j)) ⟨Or.inl rfl, trivial⟩) fun _ => k

/-- Wait for it. -/
def inWait (c : Dev nD) (j : Fin 8) (k : KProg F) : KProg F :=
  .op (.waitDma2 (inSem (par j)) (xChunk c j) (sl2 aM (par j)) (xChunk_words c j) (sl2_words (Memref.isWhole_whole _) (par j)))
    fun _ => k

/-- Wait until block `j` has left its send slot. -/
def sendWait (j : Fin 8) (k : KProg F) : KProg F :=
  .op (.waitDma2 (sendSem (par j)) (sl8 rM j) (sl2 bM (par j)) (sl8_words (Memref.isWhole_whole _) j)
    (sl2_words (Memref.isWhole_whole _) (par j))) fun _ => k

/-- Copy staging slot `s` to send slot `s`. -/
def stage (s : Fin 2) (k : KProg F) : KProg F :=
  .op (.load aM (slot2 s).toLoadRect (View.loadsAt_vmem h_S1x512x1024)) fun v =>
    .op (.load bM (slot2 s).toLoadRect (View.loadsAt_vmem h_S1x512x1024)) fun _ =>
      .op (.store bM (slot2 s) (restack (F := F) v) Finset.univ
        (View.stores_vmem h_S1x512x1024 ((Memref.isWhole_whole _).storeExact_slice rfl _ (slot2_packed s)) (fun _ => rfl)) (.inl rfl))
        fun _ => k

/-- Send block `j` to the partner. -/
def send (c : Dev nD) (j : Fin 8) (k : KProg F) : KProg F :=
  .op (.enqueueDma (sl2 bM (par j)) (.remote (Dev.tc (tgt c j)) (sl8 rM j) (.dma (sendSem (par j)))) (.dma (recvSem j))
    (sl2_words (Memref.isWhole_whole _) (par j)) (sl8_words (Memref.isWhole_whole _) j) ⟨⟨rfl, Or.inl rfl⟩, trivial⟩) fun _ => k

/-- Wait for the partner's block `j`. -/
def recvWait (j : Fin 8) (k : KProg F) : KProg F :=
  .op (.waitDma2 (recvSem j) (sl2 bM (par j)) (sl8 rM j) (sl2_words (Memref.isWhole_whole _) (par j))
    (sl8_words (Memref.isWhole_whole _) j)) fun _ => k

/-- Copy the arrived block `j` to its outgoing slot. -/
def unstage (j : Fin 8) (k : KProg F) : KProg F :=
  .op (.load rM (slot8 j).toLoadRect (View.loadsAt_vmem h_S1x512x1024)) fun v =>
    .op (.load oM (slot2 (par j)).toLoadRect (View.loadsAt_vmem h_S1x512x1024)) fun _ =>
      .op (.store oM (slot2 (par j)) (restack (F := F) v) Finset.univ
        (View.stores_vmem h_S1x512x1024 ((Memref.isWhole_whole _).storeExact_slice rfl _ (slot2_packed (par j))) (fun _ => rfl)) (.inl rfl))
        fun _ => k

/-- Start the copy of the outgoing slot to the result. -/
def outStart (c : Dev nD) (j : Fin 8) (k : KProg F) : KProg F :=
  .op (.enqueueDma (sl2 oM (par j)) (.here (yChunk c j)) (.dma (outSem (par j)))
    (sl2_words (Memref.isWhole_whole _) (par j)) (yChunk_words c j) ⟨Or.inl rfl, trivial⟩) fun _ => k

/-- Wait for it. -/
def outWait (c : Dev nD) (j : Fin 8) (k : KProg F) : KProg F :=
  .op (.waitDma2 (outSem (par j)) (sl2 oM (par j)) (yChunk c j) (sl2_words (Memref.isWhole_whole _) (par j)) (yChunk_words c j))
    fun _ => k

/-- Start the copy of the device's own half. -/
def ownStart (c : Dev nD) (k : KProg F) : KProg F :=
  .op (.enqueueDma (xOwn c) (.here (yOwn c)) (.dma ownSem)
    (xOwn_words c) (yOwn_words c) ⟨Or.inl rfl, trivial⟩) fun _ => k

/-- Wait for it. -/
def ownWait (c : Dev nD) (k : KProg F) : KProg F :=
  .op (.waitDma2 ownSem (xOwn c) (yOwn c)
    (xOwn_words c) (yOwn_words c)) fun _ => k

/-- Block number `n`, counted round from 8. -/
def bk (n : ℕ) : Fin 8 := ⟨n % 8, Nat.mod_lt _ (by decide)⟩

/-- Send step `n`: start the next block's copy in, wait for this block's, wait for its send slot, fill it, send it. -/
def sendStep (c : Dev nD) (n : ℕ) (k : KProg F) : KProg F :=
  let rest : KProg F :=
    inWait c (bk n) (if 2 ≤ n then sendWait (bk (n - 2)) (stage (par (bk n)) (send c (bk n) k)) else stage (par (bk n)) (send c (bk n) k))
  if n + 1 < 8 then inStart c (bk (n + 1)) rest else rest

/-- Receive step `n`: wait for the block, wait for its outgoing slot, fill it, start its copy to the result. -/
def recvStep (c : Dev nD) (n : ℕ) (k : KProg F) : KProg F :=
  recvWait (bk n) (if 2 ≤ n then outWait c (bk (n - 2)) (unstage (bk n) (outStart c (bk n) k)) else unstage (bk n) (outStart c (bk n) k))

/-- Steps `a`, …, `a + n - 1` of a run of steps, then the rest. -/
def steps (f : ℕ → KProg F → KProg F) : ℕ → ℕ → KProg F → KProg F
  | 0, _, k => k
  | n + 1, a, k => f a (steps f n (a + 1) k)

/-- After the steps: the last two departures, the last two copies out, the device's own half. -/
def finish (c : Dev nD) (k : KProg F) : KProg F :=
  sendWait (bk 6) (sendWait (bk 7) (outWait c (bk 6) (outWait c (bk 7) (ownWait c k))))

/-- The program after the barrier. -/
def afterBarrier (c : Dev nD) (k : KProg F) : KProg F :=
  ownStart c (inStart c (bk 0) (steps (sendStep c) 8 0 (steps (recvStep c) 8 0 (finish c k))))

/-- The program of the device `c`: tell the partner, wait to be told, then the rest. -/
def onDevice (c : Dev nD) : KProg F :=
  .op (.semSignal (⟨k0_dev1 c, k0_dev1_lt c⟩ : Dev nD) barS 1) fun _ =>
    .op (.semWait barS 1) fun _ => afterBarrier c (.ret ⟨⟩)

set_option maxRecDepth 65536 in
/-- The printed body is the program above, run at the device's own number. -/
theorem body_eq (t : Fin cfg0.N) : bodyAt0 (F := F) t = .op .deviceId fun c => onDevice (F := F) c := rfl

end Cert.AllToAll
-- ==== Proof.Protocol.lean ====
/-
The agreement between the devices: who waits on which semaphore for what.

A device's partner is the device with the same y and z and the other x. The barrier semaphore carries one unit, paid by
the partner and worth the partner's receive buffer. The semaphore of an arriving block carries the block's credit, paid
by the partner's transfer and worth the slot holding the partner's block. The semaphore of a send slot carries four
rounds of a block's credit, each worth the slot back.
-/
module

public import proofs.«01_k».proof.Proof.Program
public import Idealize.ShloMosaic.Lib.Pipeline.Launch
public import Idealize.ShloMosaic.Lib.Pipeline.Kit
public import Idealize.ShloMosaic.Lib.Transfers
public import Idealize.ShloMosaic.Lib.Memref
public import Idealize.ShloMosaic.Lib.Ring
public import Idealize.ShloMosaic.Lib.Tactic

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

/-! ## Ghost state -/

/-- The tokens and positions of the agreed rounds. -/
abbrev UB : Type := URounds (GSem nD τ sig) Unit
/-- The launch's own rounds, the agreed rounds, and counters for the local copies. -/
abbrev UU : Type := UR sig nD τ × (UB × Counters)

local notation "𝕄" => MT nD τ sig Unit (Elt F) ℕ UU ℕ

/-- Where the launch's rounds live. -/
abbrev EP : Emb (UR sig nD τ) (MT nD τ sig Unit (Elt F) ℕ UU ℕ) := embL
/-- Where the agreed rounds live. -/
def ER : Emb UB (MT nD τ sig Unit (Elt F) ℕ UU ℕ) := (Emb.inl : Emb UB (UB × Counters)).trans embR
/-- Where the counters live. -/
abbrev EC : UEmb Counters (MT nD τ sig Unit (Elt F) ℕ UU ℕ) := countersEmb

instance ER_landsIn : (ER : Emb UB 𝕄).LandsIn (upEmb : UEmb _ 𝕄) := by unfold ER; infer_instance

/-! ## The partner -/

set_option backward.proofsInPublic true in
/-- The device with the other x. -/
def peer (c : Dev nD) : Dev nD := ⟨(c.val + 4) % 8, Nat.mod_lt _ (by decide)⟩

theorem peer_peer (c : Dev nD) : peer (peer c) = c := by revert c; decide
theorem peer_div (c : Dev nD) : (peer c).val / 4 = 1 - c.val / 4 := by revert c; decide
theorem div_lt (c : Dev nD) : c.val / 4 < 2 := by revert c; decide

/-- The partners as a permutation of the devices. -/
def swap : Dev nD ≃ Dev nD := ⟨peer, peer, peer_peer, peer_peer⟩

/-- The device signalled first is the partner; -/
theorem dev1_eq (c : Dev nD) : (⟨k0_dev1 c, k0_dev1_lt c⟩ : Dev nD) = peer c := Fin.ext ((k0_dev1_eq c).trans (by revert c; decide))
/-- so is every block's target. -/
theorem tgt_eq (c : Dev nD) (j : Fin 8) : tgt c j = peer c := by
  fin_cases j
  exacts [Fin.ext ((k0_dev2_eq c).trans (by revert c; decide)), Fin.ext ((k0_dev3_eq c).trans (by revert c; decide)),
    Fin.ext ((k0_dev4_eq c).trans (by revert c; decide)), Fin.ext ((k0_dev5_eq c).trans (by revert c; decide)),
    Fin.ext ((k0_dev6_eq c).trans (by revert c; decide)), Fin.ext ((k0_dev7_eq c).trans (by revert c; decide)),
    Fin.ext ((k0_dev8_eq c).trans (by revert c; decide)), Fin.ext ((k0_dev9_eq c).trans (by revert c; decide))]

/-! ## Semaphores and cells -/

theorem inSem_val (s : Fin 2) : (inSem s).val = s.val := by revert s; decide
theorem sendSem_val (s : Fin 2) : (sendSem s).val = 2 + s.val := by revert s; decide
theorem recvSem_val (j : Fin 8) : (recvSem j).val = 4 + j.val := by revert j; decide
theorem outSem_val (s : Fin 2) : (outSem s).val = 12 + s.val := by revert s; decide
theorem ownSem_val : ownSem.val = 14 := by decide

/-- A device's barrier cell. -/
abbrev barCell (c : Dev nD) : GSem nD τ sig := ((c : Thread nD τ), .reg barS)
/-- The cell of a send slot. -/
abbrev sendCell (c : Dev nD) (s : Fin 2) : GSem nD τ sig := ((c : Thread nD τ), .dma (sendSem s))
/-- The cell of an arriving block. -/
abbrev recvCell (c : Dev nD) (j : Fin 8) : GSem nD τ sig := ((c : Thread nD τ), .dma (recvSem j))

/-- A device's shared cells: the barrier, two send slots, eight arrivals. -/
abbrev CK : Type := Unit ⊕ (Fin 2 ⊕ Fin 8)
/-- The semaphore of a shared cell. -/
abbrev csem : CK → SemLoc sig
  | .inl _ => .reg barS
  | .inr (.inl s) => .dma (sendSem s)
  | .inr (.inr j) => .dma (recvSem j)
/-- A shared cell of a device. -/
abbrev kcell (ck : Dev nD × CK) : GSem nD τ sig := ((ck.1 : Thread nD τ), csem ck.2)

/-- The credit of a block's transfer. -/
def N : ℕ := (sl2 aM 0).view.dmaCredit
theorem N_pos : 0 < N := View.dmaCredit_pos _ (by decide)

/-- Every slot and every block's part of the result has that credit. -/
theorem credit_sl2 (b : Memref sig .tc .vmem S2x512x1024 .bf16) (s : Fin 2) : (sl2 b s).view.dmaCredit = N := by unfold N; exact rfl
theorem credit_sl8 (b : Memref sig .tc .vmem S8x512x1024 .bf16) (j : Fin 8) : (sl8 b j).view.dmaCredit = N := by unfold N; exact rfl
theorem credit_yChunk (c : Dev nD) (j : Fin 8) : (yChunk c j).view.dmaCredit = N := by unfold N; exact rfl

/-! ## Contents -/

/-- Full ownership of a view's elements, whatever they hold. -/
def anyPts (c : Dev nD) {sp : Space} {s : Shape} {e : EltTy} (v : Memref sig .tc sp s e) : sProp 𝕄 :=
  iprop(∃ f, v.view.loc (c : Thread nD τ) ↦[v.view.set]{fullShare} f)

/-- Full ownership of a view's elements, which read as `X`. -/
def hold (c : Dev nD) {sp : Space} {s : Shape} {e : EltTy} (v : Memref sig .tc sp s e) (X : s.Idx → Elt F e) : sProp 𝕄 :=
  iprop(∃ f, ⌜v.view.read (Elt F) f = X⌝ ∗ (v.view.loc (c : Thread nD τ) ↦[v.view.set]{fullShare} f))

omit [FloatOps F] in
theorem hold_any (c : Dev nD) {sp : Space} {s : Shape} {e : EltTy} (v : Memref sig .tc sp s e) (X : s.Idx → Elt F e) :
    (hold c v X : sProp 𝕄) ⊢ anyPts c v := by
  unfold hold anyPts
  iintro ⟨%f, -, H⟩
  iexists f; iexact H

omit [FloatOps F] in
/-- A view just written holds what was written. -/
theorem hold_of_write (c : Dev nD) {sp : Space} {s : Shape} {e : EltTy} (v : Memref sig .tc sp s e)
    (f : Buf (Elt F) (v.view.loc (c : Thread nD τ))) {X Y : s.Idx → Elt F e} (h : X = Y) :
    (v.view.loc (c : Thread nD τ) ↦[v.view.set]{fullShare} v.view.write (Elt F) f X Finset.univ : sProp 𝕄) ⊢ hold c v Y := by
  unfold hold
  iintro H
  iexists v.view.write (Elt F) f X Finset.univ
  isplitr
  · ipureintro; exact (View.read_write_univ _ _).trans h
  iexact H

omit [FloatOps F] in
instance hold_storable (c : Dev nD) {sp : Space} {s : Shape} {e : EltTy} (v : Memref sig .tc sp s e) (X : s.Idx → Elt F e) :
    BI.Storable (upEmb : UEmb _ 𝕄) (hold (F := F) c v X) := by unfold hold; infer_instance
omit [FloatOps F] in
instance anyPts_storable (c : Dev nD) {sp : Space} {s : Shape} {e : EltTy} (v : Memref sig .tc sp s e) :
    BI.Storable (upEmb : UEmb _ 𝕄) (anyPts (F := F) c v) := by unfold anyPts; infer_instance

variable (m : (ℓ : Loc nD τ sig) → Buf (Elt F) ℓ)

/-- What the device's input holds at launch. -/
abbrev xVal (c : Dev nD) : Buf (Elt F) ((c : Thread nD τ).loc main_arg0) := m ((c : Thread nD τ).loc main_arg0)

/-- Block `j` of the partner's half of the device's input. -/
def chunk (c : Dev nD) (j : Fin 8) : S512x1024.Idx → Elt F .bf16 := (xChunk c j).view.read (Elt F) (xVal m c)

/-! ## The rounds -/

/-- What the partner's signal hands over: the partner's receive buffer. -/
def barPay (c : Dev nD) : sProp 𝕄 := iprop(∃ f, ((peer c : Thread nD τ).loc cc0_scratch2) ↦{fullShare} f)
/-- What the arrival of block `j` hands over: its slot, holding the partner's block. -/
def recvPay (c : Dev nD) (j : Fin 8) : sProp 𝕄 := hold c (sl8 rM j) (chunk m (peer c) j)
/-- What a departure hands over: the send slot. -/
def sendPay (c : Dev nD) (s : Fin 2) : sProp 𝕄 := anyPts c (sl2 bM s)

/-- How many rounds a semaphore goes through. -/
def rounds : SemLoc sig → ℕ
  | .reg s => if s = barS then 1 else 0
  | .dma q => if 2 ≤ q.val ∧ q.val < 4 then 4 else if 4 ≤ q.val ∧ q.val < 12 then 1 else 0

/-- What a round hands over. -/
def pay (c : Dev nD) : SemLoc sig → sProp 𝕄
  | .reg _ => barPay c
  | .dma q => if q.val < 4 then sendPay c ⟨q.val % 2, Nat.mod_lt _ (by decide)⟩
      else recvPay m c ⟨(q.val - 4) % 8, Nat.mod_lt _ (by decide)⟩

/-- What a round costs. -/
def cost : SemLoc sig → ℕ
  | .reg _ => 1
  | .dma _ => N

/-- The agreed rounds: each has one duty. -/
def sched : Rounds.Schedule (GSem nD τ sig) Unit 𝕄 where
  duties g r := if g.1.2 = .tc ∧ r < rounds g.2 then {()} else ∅
  unitless _ := False
  amount g _ _ := cost g.2
  payload g _ _ := pay m g.1.1 g.2
  amount_pos g _ _ _ := by
    rcases g with ⟨t, s | q⟩
    exacts [Nat.one_pos, N_pos]

instance sched_payload_storable (g : GSem nD τ sig) (r : ℕ) (d : Unit) :
    BI.Storable (upEmb : UEmb _ 𝕄) ((sched (F := F) m).payload g r d) := by
  rcases g with ⟨t, s | q⟩
  · show BI.Storable upEmb (barPay (F := F) t.1)
    unfold barPay; infer_instance
  · show BI.Storable upEmb (if q.val < 4 then sendPay t.1 ⟨q.val % 2, Nat.mod_lt _ (by decide)⟩
      else recvPay m t.1 ⟨(q.val - 4) % 8, Nat.mod_lt _ (by decide)⟩)
    unfold sendPay recvPay
    split <;> infer_instance

theorem rounds_bar : rounds (.reg barS) = 1 := by decide
theorem rounds_send (s : Fin 2) : rounds (.dma (sendSem s)) = 4 := by revert s; decide
theorem rounds_recv (j : Fin 8) : rounds (.dma (recvSem j)) = 1 := by revert j; decide

omit [FloatOps F] in
theorem duties_of {c : Dev nD} {sm : SemLoc sig} {r : ℕ} (h : r < rounds sm) :
    (sched (F := F) m).duties ((c : Thread nD τ), sm) r = {()} := if_pos ⟨rfl, h⟩
omit [FloatOps F] in
theorem duty_mem {c : Dev nD} {sm : SemLoc sig} {r : ℕ} (h : r < rounds sm) :
    () ∈ (sched (F := F) m).duties ((c : Thread nD τ), sm) r := by rw [duties_of m h]; exact Finset.mem_singleton_self _
omit [FloatOps F] in
/-- No duty is left once a semaphore's rounds are over. -/
theorem duties_over {c : Dev nD} {sm : SemLoc sig} {R : ℕ} (h : rounds sm ≤ R) :
    ∀ r, R ≤ r → (sched (F := F) m).duties ((c : Thread nD τ), sm) r = ∅ :=
  fun r hr => if_neg fun h' => by have := h'.2; dsimp only at this; omega
omit [FloatOps F] in
theorem expect_of {c : Dev nD} {sm : SemLoc sig} {r : ℕ} (h : r < rounds sm) :
    (sched (F := F) m).expect ((c : Thread nD τ), sm) r = cost sm := by
  unfold Schedule.expect Schedule.amountOf
  rw [duties_of m h, Finset.sum_singleton]; rfl
omit [FloatOps F] in
/-- A whole round hands over the payload. -/
theorem rest_of {c : Dev nD} {sm : SemLoc sig} {r : ℕ} (h : r < rounds sm) :
    bigSep ((sched (F := F) m).duties ((c : Thread nD τ), sm) r \ ∅) (fun d => (sched (F := F) m).payload ((c : Thread nD τ), sm) r d)
      = pay m c sm := by
  rw [Finset.sdiff_empty, duties_of m h, bigSep_singleton]; rfl

omit [FloatOps F] in
theorem pay_bar (c : Dev nD) : pay (F := F) m c (.reg barS) = barPay c := rfl
omit [FloatOps F] in
theorem pay_send (c : Dev nD) (s : Fin 2) : pay (F := F) m c (.dma (sendSem s)) = sendPay c s := by
  show (if (sendSem s).val < 4 then _ else _) = _
  rw [if_pos (by rw [sendSem_val]; omega)]
  congr 1; apply Fin.ext; show (sendSem s).val % 2 = s.val; rw [sendSem_val]; omega
omit [FloatOps F] in
theorem pay_recv (c : Dev nD) (j : Fin 8) : pay (F := F) m c (.dma (recvSem j)) = recvPay m c j := by
  show (if (recvSem j).val < 4 then _ else _) = _
  rw [if_neg (by rw [recvSem_val]; omega)]
  congr 1; apply Fin.ext; show ((recvSem j).val - 4) % 8 = j.val; rw [recvSem_val]; omega

/-! ## What a device owes, and the order of the waits -/

/-- The credits of the blocks from number `n` on, owed to the partner. -/
def owedFrom (c : Dev nD) (n : ℕ) : CellTallies nD τ sig Unit := ∑ j ∈ rangeSet 8 n 8, tallyAt (recvCell (peer c) j) () N
/-- At launch a device owes its partner every block's credit and one barrier unit. -/
def owedAll (c : Dev nD) : CellTallies nD τ sig Unit := owedFrom c 0 + tallyAt (barCell (peer c)) () 1

theorem bk_of_lt {n : ℕ} (h : n < 8) : bk n = ⟨n, h⟩ := Fin.ext (Nat.mod_eq_of_lt h)

/-- Sending block `n` pays its credit. -/
theorem owedFrom_step (c : Dev nD) {n : ℕ} (h : n < 8) :
    owedFrom c n = owedFrom c (n + 1) + tallyAt (recvCell (peer c) (bk n)) () N := by
  unfold owedFrom
  rw [rangeSet_head h h, Finset.sum_insert (head_not_mem_rangeSet h), add_comm, bk_of_lt h]
/-- After the last block nothing is owed. -/
theorem owedFrom_end (c : Dev nD) : owedFrom c 8 = 0 := by
  unfold owedFrom; rw [rangeSet_empty le_rfl, Finset.sum_empty]

/-- Only arrivals at the partner are owed by the blocks. -/
theorem owedFrom_pos {c : Dev nD} {n : ℕ} {g : GSem nD τ sig} {u : Unit} (h : 0 < owedFrom c n g u) :
    ∃ j, g = recvCell (peer c) j := by
  unfold owedFrom at h
  rw [Finset.sum_apply, Finsupp.finset_sum_apply] at h
  obtain ⟨j, -, hj⟩ := Finset.exists_ne_zero_of_sum_ne_zero (Nat.pos_iff_ne_zero.mp h)
  refine ⟨j, ?_⟩
  by_contra hn
  rw [tallyAt_apply, if_neg (fun h' => hn h'.1)] at hj
  exact hj rfl

theorem owedAll_pos {c : Dev nD} {g : GSem nD τ sig} {u : Unit} (h : 0 < owedAll c g u) :
    (∃ j, g = recvCell (peer c) j) ∨ g = barCell (peer c) := by
  unfold owedAll at h
  rw [Pi.add_apply, Finsupp.add_apply] at h
  by_cases hg : g = barCell (peer c)
  · exact .inr hg
  · rw [tallyAt_apply, if_neg (fun h' => hg h'.1), Nat.add_zero] at h
    exact .inl (owedFrom_pos h)

/-- Every semaphore of a core has a level. -/
def L (g : GSem nD τ sig) : Finset Unit := if g.1.2 = .tc then {()} else ∅
/-- The level of a semaphore. -/
def level : SemLoc sig → ℕ
  | .reg _ => 1
  | .dma q => if 4 ≤ q.val ∧ q.val < 12 then 2 else 0
/-- Arrivals are above the barrier, which is above the rest. -/
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl
theorem level_in (s : Fin 2) : level (.dma (inSem s)) ≤ 1 := by revert s; decide
theorem level_send (s : Fin 2) : level (.dma (sendSem s)) ≤ 1 := by revert s; decide
theorem level_recv (j : Fin 8) : level (.dma (recvSem j)) = 2 := by revert j; decide

omit [FloatOps F] in
/-- A device may wait on the barrier or on a semaphore below it while it owes blocks. -/
theorem mayWait (c : Dev nD) (sm : SemLoc sig) (hs : level sm ≤ 1) (n : ℕ) :
    (levAts L lv : sProp 𝕄) ⊢ MayWait (c : Thread nD τ) sm () (owedFrom c n) :=
  MayOwe.of_cut (L := L) (lev := lv) 1 (fun p hp => by rw [Finset.mem_singleton.mp hp, L_tc]; exact Finset.mem_singleton_self _)
    (fun g u hg => by obtain ⟨j, rfl⟩ := owedFrom_pos hg; exact Finset.mem_singleton_self _)
    (fun p hp => by rw [Finset.mem_singleton.mp hp]; exact hs)
    (fun g u hg => by obtain ⟨j, rfl⟩ := owedFrom_pos hg; show 1 < level _; rw [level_recv]; decide)

omit [FloatOps F] in
/-- A device that owes nothing may wait on anything. -/
theorem mayWait_end (c : Dev nD) (sm : SemLoc sig) :
    (emp : sProp 𝕄) ⊢ MayWait (c : Thread nD τ) sm () (owedFrom c 8) := by
  rw [owedFrom_end, MayWait_zero]; iintro -; iempintro

end Cert.AllToAll
-- ==== Proof.Slots.lean ====
/-
The scratch buffers cut into their slots and put together again, and the result cut into the device's own half and the
partner's eight blocks.
-/
module

public import proofs.«01_k».proof.Proof.Protocol

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

/-- A buffer held whole, whatever it holds. -/
def anyBuf (ℓ : Loc nD τ sig) : sProp 𝕄 := iprop(∃ f, ℓ ↦{fullShare} f)

/-! ## Buffers and slots -/

section Blocks
variable {B : Type} [Fintype B] [DecidableEq B] {ℓ : Loc nD τ sig} (I : B → Finset (Idx ℓ))
  (hd : ∀ b b', b ≠ b' → Disjoint (I b) (I b')) (hc : Finset.univ.biUnion I = Finset.univ)

omit [FloatOps F] in
include hd hc in
/-- A buffer is its blocks, when they are disjoint and cover it. -/
theorem anyBuf_blocks : (anyBuf ℓ : sProp 𝕄) ⊢ bigSep Finset.univ fun b => iprop(∃ f, ℓ ↦[I b]{fullShare} f) :=
  exists_elim fun f => (Entails.of_eq (pointsTo_blocks I hd hc f)).trans
    (bigSep_mono fun b _ => exists_intro (Φ := fun f => (ℓ ↦[I b]{fullShare} f : sProp 𝕄)) f)

omit [FloatOps F] in
include hd hc in
/-- And its blocks, of which there is one, are the buffer. -/
theorem blocks_anyBuf (b₀ : B) : (bigSep Finset.univ fun b => iprop(∃ f, ℓ ↦[I b]{fullShare} f)) ⊢ (anyBuf ℓ : sProp 𝕄) := by
  have h₀ : (iprop(∃ f, ℓ ↦[I b₀]{fullShare} f) : sProp 𝕄) ⊢ (iprop(⌜Nonempty (Buf (Elt F) ℓ)⌝) : sProp 𝕄) := by
    iintro ⟨%f, -⟩
    ipureintro; exact ⟨f⟩
  have h : (bigSep Finset.univ fun b => iprop(∃ f, ℓ ↦[I b]{fullShare} f)) ⊢ (iprop(⌜Nonempty (Buf (Elt F) ℓ)⌝) : sProp 𝕄) :=
    (bigSep_elim (Finset.mem_univ b₀)).trans h₀
  refine (persistent_entails_right h).trans ?_
  iintro ⟨%hf, H⟩
  obtain ⟨f₀⟩ := hf
  unfold anyBuf
  iapply (pointsTo_blocks_join_exists I hd hc f₀)
  iexact H

end Blocks

section Two
variable {ℓ : Loc nD τ sig} (I : Fin 2 → Finset (Idx ℓ))
  (hd : ∀ b b', b ≠ b' → Disjoint (I b) (I b')) (hc : Finset.univ.biUnion I = Finset.univ)

omit [FloatOps F] in
include hd hc in
/-- A buffer of two blocks. -/
theorem two_split : (anyBuf ℓ : sProp 𝕄) ⊢ iprop((∃ f, ℓ ↦[I 0]{fullShare} f) ∗ (∃ f, ℓ ↦[I 1]{fullShare} f)) :=
  (anyBuf_blocks I hd hc).trans (Entails.of_eq (bigSep_fin_two _))

omit [FloatOps F] in
include hd hc in
theorem two_join : iprop((∃ f, ℓ ↦[I 0]{fullShare} f) ∗ (∃ f, ℓ ↦[I 1]{fullShare} f)) ⊢ (anyBuf ℓ : sProp 𝕄) :=
  (Entails.of_eq (bigSep_fin_two fun s => iprop(∃ f, ℓ ↦[I s]{fullShare} f)).symm).trans (blocks_anyBuf I hd hc 0)

end Two

theorem slots2_disjoint : ∀ s s' : Fin 2, s ≠ s' → Disjoint (slot2 s).set (slot2 s').set :=
  lead_disjoint (s := S2x512x1024) (NB := 2) 0 1 (fun s => ![s.val, 0, 0]) S1x512x1024.size slot2_inb
    (fun b => (Nat.one_mul _).symm) rfl
theorem slots2_cover : Finset.univ.biUnion (fun s : Fin 2 => (slot2 s).set) = Finset.univ :=
  lead_cover (s := S2x512x1024) (NB := 2) 0 1 (fun s => ![s.val, 0, 0]) S1x512x1024.size slot2_inb
    (fun b => (Nat.one_mul _).symm) (fun b a ha => by fin_cases a; exacts [absurd rfl ha, rfl, rfl]) rfl
    (fun a ha => by fin_cases a; exacts [absurd rfl ha, rfl, rfl]) rfl
theorem slots8_disjoint : ∀ s s' : Fin 8, s ≠ s' → Disjoint (slot8 s).set (slot8 s').set :=
  lead_disjoint (s := S8x512x1024) (NB := 8) 0 1 (fun s => ![s.val, 0, 0]) S1x512x1024.size slot8_inb
    (fun b => (Nat.one_mul _).symm) rfl
theorem slots8_cover : Finset.univ.biUnion (fun s : Fin 8 => (slot8 s).set) = Finset.univ :=
  lead_cover (s := S8x512x1024) (NB := 8) 0 1 (fun s => ![s.val, 0, 0]) S1x512x1024.size slot8_inb
    (fun b => (Nat.one_mul _).symm) (fun b a ha => by fin_cases a; exacts [absurd rfl ha, rfl, rfl]) rfl
    (fun a ha => by fin_cases a; exacts [absurd rfl ha, rfl, rfl]) rfl

theorem set_aM (s : Fin 2) : (sl2 aM s).view.set = (slot2 s).set := (View.set_reshape _ _).trans (View.set_slice_whole _ _)
theorem set_bM (s : Fin 2) : (sl2 bM s).view.set = (slot2 s).set := (View.set_reshape _ _).trans (View.set_slice_whole _ _)
theorem set_oM (s : Fin 2) : (sl2 oM s).view.set = (slot2 s).set := (View.set_reshape _ _).trans (View.set_slice_whole _ _)
theorem set_rM (j : Fin 8) : (sl8 rM j).view.set = (slot8 j).set := (View.set_reshape _ _).trans (View.set_slice_whole _ _)

omit [FloatOps F] in
theorem anyPts_aM (c : Dev nD) (s : Fin 2) :
    (anyPts c (sl2 aM s) : sProp 𝕄) = iprop(∃ f, (c : Thread nD τ).loc cc0_scratch0 ↦[(slot2 s).set]{fullShare} f) := by
  unfold anyPts; rw [set_aM]
omit [FloatOps F] in
theorem anyPts_bM (c : Dev nD) (s : Fin 2) :
    (anyPts c (sl2 bM s) : sProp 𝕄) = iprop(∃ f, (c : Thread nD τ).loc cc0_scratch1 ↦[(slot2 s).set]{fullShare} f) := by
  unfold anyPts; rw [set_bM]
omit [FloatOps F] in
theorem anyPts_rM (c : Dev nD) (j : Fin 8) :
    (anyPts c (sl8 rM j) : sProp 𝕄) = iprop(∃ f, (c : Thread nD τ).loc cc0_scratch2 ↦[(slot8 j).set]{fullShare} f) := by
  unfold anyPts; rw [set_rM]
omit [FloatOps F] in
theorem anyPts_oM (c : Dev nD) (s : Fin 2) :
    (anyPts c (sl2 oM s) : sProp 𝕄) = iprop(∃ f, (c : Thread nD τ).loc cc0_scratch3 ↦[(slot2 s).set]{fullShare} f) := by
  unfold anyPts; rw [set_oM]

omit [FloatOps F] in
/-- The first staging buffer is its two slots. -/
theorem aM_split (c : Dev nD) : (anyBuf ((c : Thread nD τ).loc cc0_scratch0) : sProp 𝕄) ⊢ iprop(anyPts c (sl2 aM 0) ∗ anyPts c (sl2 aM 1)) := by
  rw [anyPts_aM, anyPts_aM]
  exact two_split (ℓ := (c : Thread nD τ).loc cc0_scratch0) (fun s => (slot2 s).set) slots2_disjoint slots2_cover
omit [FloatOps F] in
theorem aM_join (c : Dev nD) : iprop(anyPts c (sl2 aM 0) ∗ anyPts c (sl2 aM 1)) ⊢ (anyBuf ((c : Thread nD τ).loc cc0_scratch0) : sProp 𝕄) := by
  rw [anyPts_aM, anyPts_aM]
  exact two_join (ℓ := (c : Thread nD τ).loc cc0_scratch0) (fun s => (slot2 s).set) slots2_disjoint slots2_cover

omit [FloatOps F] in
/-- The send buffer is its two slots. -/
theorem bM_split (c : Dev nD) : (anyBuf ((c : Thread nD τ).loc cc0_scratch1) : sProp 𝕄) ⊢ iprop(anyPts c (sl2 bM 0) ∗ anyPts c (sl2 bM 1)) := by
  rw [anyPts_bM, anyPts_bM]
  exact two_split (ℓ := (c : Thread nD τ).loc cc0_scratch1) (fun s => (slot2 s).set) slots2_disjoint slots2_cover
omit [FloatOps F] in
theorem bM_join (c : Dev nD) : iprop(anyPts c (sl2 bM 0) ∗ anyPts c (sl2 bM 1)) ⊢ (anyBuf ((c : Thread nD τ).loc cc0_scratch1) : sProp 𝕄) := by
  rw [anyPts_bM, anyPts_bM]
  exact two_join (ℓ := (c : Thread nD τ).loc cc0_scratch1) (fun s => (slot2 s).set) slots2_disjoint slots2_cover

omit [FloatOps F] in
/-- The second staging buffer is its two slots. -/
theorem oM_split (c : Dev nD) : (anyBuf ((c : Thread nD τ).loc cc0_scratch3) : sProp 𝕄) ⊢ iprop(anyPts c (sl2 oM 0) ∗ anyPts c (sl2 oM 1)) := by
  rw [anyPts_oM, anyPts_oM]
  exact two_split (ℓ := (c : Thread nD τ).loc cc0_scratch3) (fun s => (slot2 s).set) slots2_disjoint slots2_cover
omit [FloatOps F] in
theorem oM_join (c : Dev nD) : iprop(anyPts c (sl2 oM 0) ∗ anyPts c (sl2 oM 1)) ⊢ (anyBuf ((c : Thread nD τ).loc cc0_scratch3) : sProp 𝕄) := by
  rw [anyPts_oM, anyPts_oM]
  exact two_join (ℓ := (c : Thread nD τ).loc cc0_scratch3) (fun s => (slot2 s).set) slots2_disjoint slots2_cover

omit [FloatOps F] in
/-- The receive buffer is its eight slots. -/
theorem rM_split (c : Dev nD) :
    (anyBuf ((c : Thread nD τ).loc cc0_scratch2) : sProp 𝕄) ⊢ bigSep Finset.univ fun j : Fin 8 => anyPts c (sl8 rM j) := by
  simp only [anyPts_rM]
  exact anyBuf_blocks (ℓ := (c : Thread nD τ).loc cc0_scratch2) (fun s => (slot8 s).set) slots8_disjoint slots8_cover
omit [FloatOps F] in
theorem rM_join (c : Dev nD) :
    (bigSep Finset.univ fun j : Fin 8 => anyPts c (sl8 rM j)) ⊢ (anyBuf ((c : Thread nD τ).loc cc0_scratch2) : sProp 𝕄) := by
  simp only [anyPts_rM]
  exact blocks_anyBuf (ℓ := (c : Thread nD τ).loc cc0_scratch2) (fun s => (slot8 s).set) slots8_disjoint slots8_cover 0

end Cert.AllToAll
-- ==== Proof.Steps.lean ====
/-
What each piece of the program does to what the device holds: one statement per copy, wait, transfer and register step.
-/
module

public import proofs.«01_k».proof.Proof.Protocol
public import Idealize.ShloMosaic.Lib.Pipeline.Value

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring Idealize.ShloMosaic.Transfers

variable {F : FTy → Type} [FloatOps F]

local notation "𝕄" => MT nD τ sig Unit (Elt F) ℕ UU ℕ

/-- No loop is entered. -/
abbrev 𝒱₀ : Variants := Variants.none

/-- A program of the kernel run on device `c` ends in `Q`. -/
abbrev Wp (c : Dev nD) (p : KProg F) (Q : PUnit → sProp 𝕄) : sProp 𝕄 :=
  wp frame (wpE (defs₀ (F := F)) 𝒱₀ (c : Thread nD τ) none) Set.univ p Q

variable (m : (ℓ : Loc nD τ sig) → Buf (Elt F) ℓ) (K : Dev nD × CK → ℕ)

/-- Every shared cell follows the agreed rounds and has reached its first. -/
def records : sProp 𝕄 :=
  iprop((bigSep Finset.univ fun ck : Dev nD × CK => cellInv ER (sched m) (K ck) (kcell ck))
    ∗ bigSep Finset.univ fun ck : Dev nD × CK => reached ER (kcell ck) 0)

instance records_persistent : BI.Persistent (records (F := F) m K) := by unfold records; infer_instance

theorem records_inv (ck : Dev nD × CK) : records m K ⊢ (cellInv ER (sched m) (K ck) (kcell ck) : sProp 𝕄) :=
  sep_elim_left.trans (bigSep_elim (Finset.mem_univ ck))
theorem records_reached (ck : Dev nD × CK) : records m K ⊢ (reached ER (kcell ck) 0 : sProp 𝕄) :=
  sep_elim_right.trans (bigSep_elim (Finset.mem_univ ck))

/-- What device `c` owes when the blocks before number `n` are sent. -/
def owed (c : Dev nD) (n : ℕ) : sProp 𝕄 := iprop(∃ W, owes (c : Thread nD τ) (owedFrom c n) W)

theorem par_bk (n : ℕ) : par (bk (n + 2)) = par (bk n) := by
  apply Fin.ext; show (n + 2) % 8 % 2 = n % 8 % 2; omega

/-! ## Copies in -/

/-- The share of the input a staging slot's copies read with. -/
def inShare : Fin 2 → PosShare TreeShare
  | 0 => fullShare.right.left
  | 1 => fullShare.right.right

/-- A share of the whole input. -/
def xPart (c : Dev nD) (q : PosShare TreeShare) : sProp 𝕄 := ((c : Thread nD τ).loc main_arg0) ↦{q} xVal m c

/-- The input in three shares: the device's own half's, and one per staging slot. -/
theorem xPart_shares (c : Dev nD) :
    (xPart m c fullShare : sProp 𝕄)
      ⊣⊢ iprop(xPart m c fullShare.left ∗ xPart m c (inShare 0) ∗ xPart m c (inShare 1)) := by
  unfold xPart inShare
  exact (pointsTo_share (PosShare.mem_left_op_right _)).trans
    (sep_congr_right (pointsTo_share (PosShare.mem_left_op_right _)))

/-- Staging slot `s` is idle. -/
def inFree (c : Dev nD) (s : Fin 2) : sProp 𝕄 :=
  iprop(xPart m c (inShare s) ∗ anyPts c (sl2 aM s) ∗ semVal ((c : Thread nD τ), .dma (inSem s)) 0)

/-- The copy of block `j` into its staging slot is under way. -/
def inBusy (c : Dev nD) (j : Fin 8) : sProp 𝕄 :=
  iprop(Flight EC (c : Thread nD τ) (.dma (inSem (par j))) () N
      iprop(hold c (sl2 aM (par j)) (chunk m c j)
        ∗ ((xChunk c j).view.loc (c : Thread nD τ) ↦[(xChunk c j).view.set]{inShare (par j)} xVal m c))
    ∗ ((xChunk c j).view.loc (c : Thread nD τ) ↦[Finset.univ \ (xChunk c j).view.set]{inShare (par j)} xVal m c))

/-- Starting a copy in takes the idle slot. -/
theorem wp_inStart (c : Dev nD) (j : Fin 8) (k : KProg F) (Q : PUnit → sProp 𝕄) :
    inFree m c (par j) ⊢ iprop((inBusy m c j -∗ Wp c k Q) -∗ Wp c (inStart c j k) Q) := by
  unfold inFree inBusy inStart anyPts xPart
  iintro ⟨Hx, ⟨%f, Ha⟩, Hv⟩ Hk
  ihave Hs := (pointsTo_split_subset (Finset.subset_univ (xChunk c j).view.set)).1 $$ Hx
  icases Hs with ⟨Hx, Hr⟩
  iapply (wp_dmaLocal EC 𝒱₀ (c : Thread nD τ) none (src := xChunk c j) (dst := sl2 aM (par j)) (sm := .dma (inSem (par j))) (fd := f) () N (credit_sl2 aM (par j)) N_pos
    (Finset.Subset.refl _)) $$ [Hx Ha Hv]
  · isplitl [Hx]; · iexact Hx
    isplitl [Ha]; · iexact Ha
    iexact Hv
  iintro Hf
  iapply Hk
  isplitl [Hf]
  · iapply (Flight_mono EC (c : Thread nD τ) (sep_mono_left (hold_of_write c _ f rfl))) $$ Hf
  iexact Hr

/-- Waiting for it gives the slot filled with the block. -/
theorem wp_inWait (c : Dev nD) (j : Fin 8) (n : ℕ) (k : KProg F) (Q : PUnit → sProp 𝕄) :
    iprop(levAts L lv ∗ inBusy m c j ∗ owed c n)
      ⊢ iprop((iprop(hold c (sl2 aM (par j)) (chunk m c j) ∗ xPart m c (inShare (par j))
          ∗ semVal ((c : Thread nD τ), .dma (inSem (par j))) 0 ∗ owed c n) -∗ Wp c k Q) -∗ Wp c (inWait c j k) Q) := by
  unfold inBusy inWait owed xPart
  iintro ⟨#Hlev, ⟨Hf, Hr⟩, ⟨%W, HO⟩⟩ Hk
  iapply (wp_waitLocalO EC 𝒱₀ (c : Thread nD τ) none () (N := N) (credit_sl2 aM (par j))) $$ [Hf HO]
  · isplitl [Hf]; · iexact Hf
    isplitl [HO]; · iexact HO
    iapply (mayWait c _ (level_in (par j)) n)
    iexact Hlev
  iintro ⟨⟨Ha, Hx⟩, Hv, HO⟩
  iapply Hk
  isplitl [Ha]; · iexact Ha
  isplitl [Hx Hr]
  · iapply (pointsTo_split_subset (Finset.subset_univ (xChunk c j).view.set)).2
    isplitl [Hx]; · iexact Hx
    iexact Hr
  isplitl [Hv]; · iexact Hv
  iexists _; iexact HO

/-! ## Register steps -/

omit [FloatOps F] in
theorem restack_eq [FloatOps F] (v : Vec F S1x512x1024 .bf16) : restack v = v := by
  unfold restack; rw [shapeCast_shapeCast]

/-- What lies under slot `s` of a staging buffer. -/
theorem read_sl2 (b : Memref sig .tc .vmem S2x512x1024 .bf16) (s : Fin 2) (f : b.view.ty.Contents (Elt F)) :
    (sl2 b s).view.read (Elt F) f
      = fun x => (b.access (slot2 s)).read (Elt F) f (Shape.reshapeEquiv squeezes_S1x512x1024_S512x1024.numel_eq x) := rfl
theorem read_sl8 (j : Fin 8) (f : rM.view.ty.Contents (Elt F)) :
    (sl8 rM j).view.read (Elt F) f
      = fun x => (rM.access (slot8 j)).read (Elt F) f (Shape.reshapeEquiv squeezes_S1x512x1024_S512x1024.numel_eq x) := rfl

/-- Filling a send slot copies the staging slot. -/
theorem wp_stage (c : Dev nD) (s : Fin 2) (X : S512x1024.Idx → Elt F .bf16) (k : KProg F) (Q : PUnit → sProp 𝕄) :
    iprop(hold c (sl2 aM s) X ∗ anyPts c (sl2 bM s))
      ⊢ iprop((iprop(hold c (sl2 aM s) X ∗ hold c (sl2 bM s) X) -∗ Wp c k Q) -∗ Wp c (stage s k) Q) := by
  unfold hold anyPts stage
  rw [View.set_reshape, View.set_reshape]
  iintro ⟨⟨%f, %hf, Ha⟩, ⟨%g, Hb⟩⟩ Hk
  iapply (wp_load_rect 𝒱₀ (c : Thread nD τ) none Set.univ (m := aM) (r := slot2 s) (Finset.Subset.refl _)) $$ Ha
  iintro Ha
  iapply (wp_load_rect 𝒱₀ (c : Thread nD τ) none Set.univ (m := bM) (r := slot2 s) (Finset.Subset.refl _)) $$ Hb
  iintro Hb
  iapply (wp_store 𝒱₀ (c : Thread nD τ) none Set.univ (m := bM) (r := slot2 s) (Mk := Finset.univ) (S := (bM.access (slot2 s)).set)
    (Finset.Subset.refl _)) $$ Hb
  iintro Hb
  iapply Hk
  isplitl [Ha]
  · iexists f
    isplitr; · ipureintro; exact hf
    iexact Ha
  iexists _
  isplitr [Hb]; rotate_left
  · iexact Hb
  ipureintro
  rw [read_sl2, View.read_write_univ, restack_eq, ← hf, read_sl2]

/-- Filling an outgoing slot copies the arrived block. -/
theorem wp_unstage (c : Dev nD) (j : Fin 8) (X : S512x1024.Idx → Elt F .bf16) (k : KProg F) (Q : PUnit → sProp 𝕄) :
    iprop(hold c (sl8 rM j) X ∗ anyPts c (sl2 oM (par j)))
      ⊢ iprop((iprop(hold c (sl8 rM j) X ∗ hold c (sl2 oM (par j)) X) -∗ Wp c k Q) -∗ Wp c (unstage j k) Q) := by
  unfold hold anyPts unstage
  rw [View.set_reshape, View.set_reshape]
  iintro ⟨⟨%f, %hf, Ha⟩, ⟨%g, Hb⟩⟩ Hk
  iapply (wp_load_rect 𝒱₀ (c : Thread nD τ) none Set.univ (m := rM) (r := slot8 j) (Finset.Subset.refl _)) $$ Ha
  iintro Ha
  iapply (wp_load_rect 𝒱₀ (c : Thread nD τ) none Set.univ (m := oM) (r := slot2 (par j)) (Finset.Subset.refl _)) $$ Hb
  iintro Hb
  iapply (wp_store 𝒱₀ (c : Thread nD τ) none Set.univ (m := oM) (r := slot2 (par j)) (Mk := Finset.univ)
    (S := (oM.access (slot2 (par j))).set) (Finset.Subset.refl _)) $$ Hb
  iintro Hb
  iapply Hk
  isplitl [Ha]
  · iexists f
    isplitr; · ipureintro; exact hf
    iexact Ha
  iexists _
  isplitr [Hb]; rotate_left
  · iexact Hb
  ipureintro
  rw [read_sl2, View.read_write_univ, restack_eq, ← hf, read_sl8]

/-! ## Transfers -/

/-- Send slot of block number `n` is idle, before round `n / 2` of its semaphore. -/
def sendFree (c : Dev nD) (n : ℕ) : sProp 𝕄 :=
  iprop(anyPts c (sl2 bM (par (bk n))) ∗ atPos ER (sendCell c (par (bk n))) (n / 2) ∅ 0
    ∗ reached ER (sendCell c (par (bk n))) (n / 2))

/-- Block number `n` is leaving its send slot. -/
def sendBusy (c : Dev nD) (n : ℕ) : sProp 𝕄 :=
  iprop(cred (tallyAt (sendCell c (par (bk n))) () N) ∗ atPos ER (sendCell c (par (bk n))) (n / 2) ∅ 0)

/-- Waiting for a departure frees the slot for the block two on. -/
theorem wp_sendWait (c : Dev nD) {n : ℕ} (hn : n < 8) (i : ℕ) (k : KProg F) (Q : PUnit → sProp 𝕄) :
    iprop(records m K ∗ levAts L lv ∗ sendBusy c n ∗ owed c i)
      ⊢ iprop((iprop(sendFree c (n + 2) ∗ owed c i) -∗ Wp c k Q) -∗ Wp c (sendWait (bk n) k) Q) := by
  unfold sendFree sendBusy owed sendWait
  rw [par_bk, Nat.add_div_right n (by decide)]
  iintro ⟨#HR, #Hlev, ⟨Hc, Hat⟩, ⟨%W, HO⟩⟩ Hk
  iapply (Rounds.wp_wait_rest_token 𝒱₀ ER (sched m) (c : Thread nD τ) none (κ := K (c, .inr (.inl (par (bk n)))))
      (wpE_waitDma2_eq 𝒱₀ (c : Thread nD τ) none Set.univ) (Set.mem_univ _) () (O := owedFrom c i) (W := W) (R := n / 2) (m := 0) (T := ∅)
      (by rw [Nat.zero_add, expect_of m (by rw [rounds_send]; omega)]; rfl)) $$ [Hc HO Hat]
  · isplitr; · iapply (records_inv m K (c, .inr (.inl (par (bk n))))); iexact HR
    isplitl [Hc]; · iexact Hc
    isplitl [HO]; · iexact HO
    isplitr
    · iapply (mayWait c _ (level_send (par (bk n))) i)
      iexact Hlev
    iexact Hat
  iintro ⟨HO, Hat, #Hr, Hpay⟩
  ihave Hp := (Entails.of_eq ((rest_of m (by rw [rounds_send]; omega)).trans (pay_send m c (par (bk n))))) $$ Hpay
  unfold sendPay
  iapply Hk
  isplitl [Hp Hat]
  · isplitl [Hp]; · iexact Hp
    isplitl [Hat]; · iexact Hat
    iexact Hr
  iexists _; iexact HO

/-- Sending block number `n`, addressed to `t`, the partner, gives its slot and the partner's receive slot away and pays
the block's credit. -/
theorem wp_send_to (c t : Dev nD) (ht : t = peer c) {n : ℕ} (hn : n < 8)
    {hsc : (sl8 rM (bk n)).view.ref.isScScratch = false} {hsrc : (sl2 bM (par (bk n))).view.WordExact}
    {hdst : (sl8 rM (bk n)).view.WordExact}
    {hsem : DmaTarget.Typed .vmem (.dma (recvSem (bk n))) (.remote (Dev.tc t : Thread nD τ) (sl8 rM (bk n)) (.dma (sendSem (par (bk n)))) hsc)}
    (k : KProg F) (Q : PUnit → sProp 𝕄) :
    iprop(records m K ∗ hold c (sl2 bM (par (bk n))) (chunk m c (bk n)) ∗ anyPts (peer c) (sl8 rM (bk n)) ∗ owed c n
        ∗ dutyTok ER (sendCell c (par (bk n))) (n / 2) () ∗ reached ER (sendCell c (par (bk n))) (n / 2)
        ∗ dutyTok ER (recvCell (peer c) (bk n)) 0 ())
      ⊢ iprop((iprop(cred (tallyAt (sendCell c (par (bk n))) () N) ∗ owed c (n + 1)) -∗ Wp c k Q)
        -∗ Wp c (.op (.enqueueDma (sl2 bM (par (bk n))) (.remote (Dev.tc t : Thread nD τ) (sl8 rM (bk n)) (.dma (sendSem (par (bk n)))) hsc)
          (.dma (recvSem (bk n))) hsrc hdst hsem) fun _ => k) Q) := by
  subst ht
  unfold hold anyPts owed
  iintro ⟨#HR, ⟨%f, %hf, Hb⟩, ⟨%g, Hr⟩, ⟨%W, HO⟩, Ht, #Hs, Ht'⟩ Hk
  iapply (Rounds.wp_send_pointsTo 𝒱₀ ER (sched m) (c : Thread nD τ) none (κ₁ := K (c, .inr (.inl (par (bk n)))))
    (κ₂ := K (peer c, .inr (.inr (bk n)))) (r₁ := n / 2) (r₂ := 0) (d₁ := ()) (d₂ := ())
    (sem := .dma (recvSem (bk n))) (fd := g)
    (duty_mem m (by rw [rounds_send]; omega)) (duty_mem m (by rw [rounds_recv]; omega))
    () () N (credit_sl8 rM (bk n)) rfl rfl (owedFrom c (n + 1)) (owedFrom_step c hn) (W := W)
    (by
      show _ ⊢ pay m c (.dma (sendSem (par (bk n))))
      rw [pay_send]; unfold sendPay anyPts
      iintro H; iexists f; iexact H)
    (by
      show _ ⊢ pay m (peer c) (.dma (recvSem (bk n)))
      rw [pay_recv, recvPay, peer_peer]
      exact hold_of_write (peer c) (sl8 rM (bk n)) g hf)) $$ [Hb Hr HO Ht Ht']
  · isplitr; · iapply (records_inv m K (c, .inr (.inl (par (bk n))))); iexact HR
    isplitr; · iapply (records_inv m K (peer c, .inr (.inr (bk n)))); iexact HR
    isplitl [Hb]; · iexact Hb
    isplitl [Hr]; · iexact Hr
    isplitl [HO]; · iexact HO
    isplitl [Ht]; · iexact Ht
    isplitr; · iexact Hs
    isplitl [Ht']; · iexact Ht'
    iapply (records_reached m K (peer c, .inr (.inr (bk n)))); iexact HR
  iintro ⟨Hc, HO⟩
  iapply Hk
  isplitl [Hc]; · iexact Hc
  iexists W; iexact HO

/-- So does the program's transfer. -/
theorem wp_send (c : Dev nD) {n : ℕ} (hn : n < 8) (k : KProg F) (Q : PUnit → sProp 𝕄) :
    iprop(records m K ∗ hold c (sl2 bM (par (bk n))) (chunk m c (bk n)) ∗ anyPts (peer c) (sl8 rM (bk n)) ∗ owed c n
        ∗ dutyTok ER (sendCell c (par (bk n))) (n / 2) () ∗ reached ER (sendCell c (par (bk n))) (n / 2)
        ∗ dutyTok ER (recvCell (peer c) (bk n)) 0 ())
      ⊢ iprop((iprop(cred (tallyAt (sendCell c (par (bk n))) () N) ∗ owed c (n + 1)) -∗ Wp c k Q) -∗ Wp c (send c (bk n) k) Q) :=
  wp_send_to m K c _ (tgt_eq c (bk n)) hn k Q

/-- Waiting for an arrival gives the slot holding the partner's block, and the semaphore for good. -/
theorem wp_recvWait (c : Dev nD) (j : Fin 8) (k : KProg F) (Q : PUnit → sProp 𝕄) :
    iprop(records m K ∗ (cred (tallyAt (recvCell c j) () N) ∗ atPos ER (recvCell c j) 0 ∅ 0) ∗ owed c 8)
      ⊢ iprop((iprop(hold c (sl8 rM j) (chunk m (peer c) j) ∗ semVal (recvCell c j) 0 ∗ owed c 8) -∗ Wp c k Q)
        -∗ Wp c (recvWait j k) Q) := by
  unfold owed recvWait
  iintro ⟨#HR, ⟨Hc, Hat⟩, ⟨%W, HO⟩⟩ Hk
  iapply (Rounds.wp_wait_rest_token 𝒱₀ ER (sched m) (c : Thread nD τ) none (κ := K (c, .inr (.inr j)))
      (wpE_waitDma2_eq 𝒱₀ (c : Thread nD τ) none Set.univ) (Set.mem_univ _) () (O := owedFrom c 8) (W := W) (R := 0) (m := 0) (T := ∅)
      (by rw [Nat.zero_add, expect_of m (by rw [rounds_recv]; omega)]; rfl)) $$ [Hc HO Hat]
  · isplitr; · iapply (records_inv m K (c, .inr (.inr j))); iexact HR
    isplitl [Hc]; · iexact Hc
    isplitl [HO]; · iexact HO
    isplitr; · iapply (mayWait_end c); iempintro
    iexact Hat
  iintro ⟨HO, Hat, -, Hpay⟩
  ihave Hp := (Entails.of_eq ((rest_of m (by rw [rounds_recv]; omega)).trans (pay_recv m c j))) $$ Hpay
  unfold recvPay
  imod (Rounds.cell_close ER (sched m) (Set.mem_univ (K (c, .inr (.inr j)))) (fun h => h) (R := 0 + 1)
    (duties_over m (rounds_recv j).le)) $$ [Hat] with Hz
  · isplitr; · iapply (records_inv m K (c, .inr (.inr j))); iexact HR
    iexact Hat
  iapply Hk
  isplitl [Hp]; · iexact Hp
  isplitl [Hz]; · iexact Hz
  iexists _; iexact HO

/-! ## Copies out -/

/-- Outgoing slot `s` is idle. -/
def outFree (c : Dev nD) (s : Fin 2) : sProp 𝕄 :=
  iprop(anyPts c (sl2 oM s) ∗ semVal ((c : Thread nD τ), .dma (outSem s)) 0)

/-- The copy of the partner's block `j` to the result is under way. -/
def outBusy (c : Dev nD) (j : Fin 8) : sProp 𝕄 :=
  Flight EC (c : Thread nD τ) (.dma (outSem (par j))) () N
    iprop(hold c (yChunk c j) (chunk m (peer c) j) ∗ anyPts c (sl2 oM (par j)))

/-- Starting a copy out takes the filled slot and the block's part of the result. -/
theorem wp_outStart (c : Dev nD) (j : Fin 8) (k : KProg F) (Q : PUnit → sProp 𝕄) :
    iprop(hold c (sl2 oM (par j)) (chunk m (peer c) j) ∗ anyPts c (yChunk c j) ∗ semVal ((c : Thread nD τ), .dma (outSem (par j))) 0)
      ⊢ iprop((outBusy m c j -∗ Wp c k Q) -∗ Wp c (outStart c j k) Q) := by
  unfold outBusy outStart anyPts
  conv_lhs => unfold hold
  iintro ⟨⟨%f, %hf, Ho⟩, ⟨%g, Hy⟩, Hv⟩ Hk
  iapply (wp_dmaLocal EC 𝒱₀ (c : Thread nD τ) none (src := sl2 oM (par j)) (dst := yChunk c j) (sm := .dma (outSem (par j))) (fd := g) () N (credit_yChunk c j) N_pos
    (Finset.Subset.refl _)) $$ [Ho Hy Hv]
  · isplitl [Ho]; · iexact Ho
    isplitl [Hy]; · iexact Hy
    iexact Hv
  iintro Hf
  iapply Hk
  iapply (Flight_mono EC (c : Thread nD τ) (sep_mono (hold_of_write c (yChunk c j) g hf) (exists_intro f))) $$ Hf

/-- Waiting for it gives the block's part of the result, and the slot back. -/
theorem wp_outWait (c : Dev nD) (j : Fin 8) (k : KProg F) (Q : PUnit → sProp 𝕄) :
    iprop(outBusy m c j ∗ owed c 8)
      ⊢ iprop((iprop(hold c (yChunk c j) (chunk m (peer c) j) ∗ outFree c (par j) ∗ owed c 8) -∗ Wp c k Q)
        -∗ Wp c (outWait c j k) Q) := by
  unfold outBusy outWait owed outFree
  iintro ⟨Hf, ⟨%W, HO⟩⟩ Hk
  iapply (wp_waitLocalO EC 𝒱₀ (c : Thread nD τ) none () (N := N) (credit_yChunk c j)) $$ [Hf HO]
  · isplitl [Hf]; · iexact Hf
    isplitl [HO]; · iexact HO
    iapply (mayWait_end c); iempintro
  iintro ⟨⟨Hy, Ho⟩, Hv, HO⟩
  iapply Hk
  isplitl [Hy]; · iexact Hy
  isplitl [Ho Hv]
  · isplitl [Ho]; · iexact Ho
    iexact Hv
  iexists _; iexact HO

/-! ## The device's own half -/

/-- What the device keeps of its input. -/
def ownVal (c : Dev nD) : S4096x1024.Idx → Elt F .bf16 := (xOwn c).view.read (Elt F) (xVal m c)

/-- The credit of the own half's copy. -/
def Nown : ℕ := (yOwn 0).view.dmaCredit
theorem Nown_pos : 0 < Nown := View.dmaCredit_pos _ (by decide)
theorem credit_yOwn (c : Dev nD) : (yOwn c).view.dmaCredit = Nown := by unfold Nown; exact rfl

/-- The copy of the own half is under way. -/
def ownBusy (c : Dev nD) : sProp 𝕄 :=
  iprop(Flight EC (c : Thread nD τ) (.dma ownSem) () Nown
      iprop(hold c (yOwn c) (ownVal m c) ∗ ((xOwn c).view.loc (c : Thread nD τ) ↦[(xOwn c).view.set]{fullShare.left} xVal m c))
    ∗ ((xOwn c).view.loc (c : Thread nD τ) ↦[Finset.univ \ (xOwn c).view.set]{fullShare.left} xVal m c))

/-- Starting the copy of the own half. -/
theorem wp_ownStart (c : Dev nD) (k : KProg F) (Q : PUnit → sProp 𝕄) :
    iprop(xPart m c fullShare.left ∗ anyPts c (yOwn c) ∗ semVal ((c : Thread nD τ), .dma ownSem) 0)
      ⊢ iprop((ownBusy m c -∗ Wp c k Q) -∗ Wp c (ownStart c k) Q) := by
  unfold ownBusy ownStart anyPts xPart
  iintro ⟨Hx, ⟨%f, Ha⟩, Hv⟩ Hk
  ihave Hs := (pointsTo_split_subset (Finset.subset_univ (xOwn c).view.set)).1 $$ Hx
  icases Hs with ⟨Hx, Hr⟩
  iapply (wp_dmaLocal EC 𝒱₀ (c : Thread nD τ) none (src := xOwn c) (dst := yOwn c) (sm := .dma ownSem) (fd := f) () Nown (credit_yOwn c) Nown_pos
    (Finset.Subset.refl _)) $$ [Hx Ha Hv]
  · isplitl [Hx]; · iexact Hx
    isplitl [Ha]; · iexact Ha
    iexact Hv
  iintro Hf
  iapply Hk
  isplitl [Hf]
  · iapply (Flight_mono EC (c : Thread nD τ) (sep_mono_left (hold_of_write c _ f rfl))) $$ Hf
  iexact Hr

/-- Waiting for it. -/
theorem wp_ownWait (c : Dev nD) (k : KProg F) (Q : PUnit → sProp 𝕄) :
    iprop(ownBusy m c ∗ owed c 8)
      ⊢ iprop((iprop(hold c (yOwn c) (ownVal m c) ∗ xPart m c fullShare.left ∗ semVal ((c : Thread nD τ), .dma ownSem) 0 ∗ owed c 8)
          -∗ Wp c k Q) -∗ Wp c (ownWait c k) Q) := by
  unfold ownBusy ownWait owed xPart
  iintro ⟨⟨Hf, Hr⟩, ⟨%W, HO⟩⟩ Hk
  iapply (wp_waitLocalO EC 𝒱₀ (c : Thread nD τ) none (hsrc := xOwn_words c) (hdst := yOwn_words c) () (N := Nown) (credit_yOwn c)) $$ [Hf HO]
  · isplitl [Hf]; · iexact Hf
    isplitl [HO]; · iexact HO
    iapply (mayWait_end c); iempintro
  iintro ⟨⟨Ha, Hx⟩, Hv, HO⟩
  iapply Hk
  isplitl [Ha]; · iexact Ha
  isplitl [Hx Hr]
  · iapply (pointsTo_split_subset (Finset.subset_univ (xOwn c).view.set)).2
    isplitl [Hx]; · iexact Hx
    iexact Hr
  isplitl [Hv]; · iexact Hv
  iexists _; iexact HO

end Cert.AllToAll
-- ==== Proof.Result.lean ====
/-
The result cut into the device's own half and the partner's eight blocks, and what it holds when both have arrived.
-/
module

public import proofs.«01_k».proof.Proof.Slots
public import proofs.«01_k».proof.Proof.Steps

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

/-! ## The cut -/

/-- The result's parts: the device's own half, and the partner's blocks. -/
def yPart (c : Dev nD) : Unit ⊕ Fin 8 → Finset (Idx ((c : Thread nD τ).loc main_v1))
  | .inl _ => (yOwn c).view.set
  | .inr j => (yChunk c j).view.set

/-- The own half is the rows of the device's place on the axis. -/
theorem mem_yOwn (c : Dev nD) (i : S8192x1024.Idx) :
    i ∈ (yOwn c).view.set ↔ 4096 * (c.val / 4) ≤ (i 0).val ∧ (i 0).val < 4096 * (c.val / 4) + 4096 := by
  have h1 : (i 1).val < 1024 := (i 1).isLt
  have e : (yOwn c).view.set = (Rect.unit (s := S8192x1024) (k0_off1 c) S4096x1024.size (k0_off1_inb c)).set :=
    View.set_slice_whole _ _
  refine (iff_of_eq (congrArg (fun I : Finset S8192x1024.Idx => i ∈ I) e)).trans (Rect.mem_set_unit.trans ?_)
  rw [k0_off1_eq]
  constructor
  · intro h; exact h 0
  · intro h a
    fin_cases a
    · exact h
    · exact ⟨Nat.zero_le _, by show (i 1).val < 0 + 1024; omega⟩

/-- Block `j` is 512 rows of the other half. -/
theorem mem_yChunk (c : Dev nD) (j : Fin 8) (i : S8192x1024.Idx) :
    i ∈ (yChunk c j).view.set ↔ 512 * j.val + 4096 - 4096 * (c.val / 4) ≤ (i 0).val
      ∧ (i 0).val < 512 * j.val + 4096 - 4096 * (c.val / 4) + 512 := by
  have h1 : (i 1).val < 1024 := (i 1).isLt
  have e : (yChunk c j).view.set
      = (Rect.unit (s := S8192x1024) (k0_off11 c (BitVec.ofNat 32 (512 * j.val))) S512x1024.size (k0_off11_inb c j)).set :=
    View.set_slice_whole _ _
  refine (iff_of_eq (congrArg (fun I : Finset S8192x1024.Idx => i ∈ I) e)).trans (Rect.mem_set_unit.trans ?_)
  rw [k0_off11_eq]
  constructor
  · intro h; exact h 0
  · intro h a
    fin_cases a
    · exact h
    · exact ⟨Nat.zero_le _, by show (i 1).val < 0 + 1024; omega⟩

theorem yPart_disjoint (c : Dev nD) : ∀ b b', b ≠ b' → Disjoint (yPart c b) (yPart c b') := by
  have hc := div_lt c
  intro b b' hb
  rw [Finset.disjoint_left]
  intro i h h'
  rcases b with u | j <;> rcases b' with u' | j'
  · exact hb rfl
  · have h := (mem_yOwn c i).mp h
    have h' := (mem_yChunk c j' i).mp h'
    have := j'.isLt
    omega
  · have h := (mem_yChunk c j i).mp h
    have h' := (mem_yOwn c i).mp h'
    have := j.isLt
    omega
  · have h := (mem_yChunk c j i).mp h
    have h' := (mem_yChunk c j' i).mp h'
    refine hb (congrArg Sum.inr (Fin.ext ?_))
    omega

theorem yPart_cover (c : Dev nD) : Finset.univ.biUnion (yPart c) = Finset.univ := by
  have hc := div_lt c
  refine Finset.eq_univ_iff_forall.mpr fun i => Finset.mem_biUnion.mpr ?_
  have h0 : ((i : S8192x1024.Idx) 0).val < 8192 := ((i : S8192x1024.Idx) 0).isLt
  by_cases h : ((i : S8192x1024.Idx) 0).val / 4096 = c.val / 4
  · exact ⟨.inl (), Finset.mem_univ _, (mem_yOwn c i).mpr (by omega)⟩
  · have hj : ((i : S8192x1024.Idx) 0).val % 4096 / 512 < 8 := by omega
    exact ⟨.inr ⟨_, hj⟩, Finset.mem_univ _, (mem_yChunk c ⟨_, hj⟩ i).mpr (by dsimp only; omega)⟩

omit [FloatOps F] in
/-- The result is its parts. -/
theorem y_split (c : Dev nD) :
    (anyBuf ((c : Thread nD τ).loc main_v1) : sProp 𝕄)
      ⊢ iprop(anyPts c (yOwn c) ∗ bigSep Finset.univ fun j : Fin 8 => anyPts c (yChunk c j)) := by
  refine (anyBuf_blocks (ℓ := (c : Thread nD τ).loc main_v1) (yPart c) (yPart_disjoint c) (yPart_cover c)).trans
    (Entails.of_eq ?_)
  rw [bigSep_univ_sum]
  congr 1
  exact bigSep_univ_of_subsingleton ()

/-! ## What it holds -/

variable (m : (ℓ : Loc nD τ sig) → Buf (Elt F) ℓ)

/-- Where an element of the device's result lies in the input it comes from. -/
def pick (c : Dev nD) (i : S8192x1024.Idx) : S4096x2048.Idx := fun a =>
  ⟨(![(i 0).val % 4096, 1024 * (c.val / 4) + (i 1).val] : Fin 2 → ℕ) a, by
    have hc := div_lt c
    have h1 : (i 1).val < 1024 := (i 1).isLt
    fin_cases a
    · exact Nat.mod_lt _ (by decide)
    · show 1024 * (c.val / 4) + (i 1).val < 2048
      omega⟩

/-- The result of a device: its own rows from its own input, the others from its partner's. -/
def T (c : Dev nD) : Buf (Elt F) ((c : Thread nD τ).loc main_v1) := fun i : S8192x1024.Idx =>
  if (i 0).val / 4096 = c.val / 4 then xVal m c (pick c i) else xVal m (peer c) (pick c i)

/-- Where an element of the own half lies in the result. -/
def ownAt (c : Dev nD) (y : S4096x1024.Idx) : S8192x1024.Idx := (yOwn c).view.emb y
/-- Where an element of the partner's block lies in the result. -/
def chunkAt (c : Dev nD) (j : Fin 8) (y : S512x1024.Idx) : S8192x1024.Idx := (yChunk c j).view.emb y

omit [FloatOps F] in
/-- Its own rows are the own half of its input. -/
theorem T_own (c : Dev nD) : (yOwn c).view.read (Elt F) (T m c) = ownVal m c := by
  have hc := div_lt c
  funext y
  have hy0 : (y 0).val < 4096 := (y 0).isLt
  have e0 : (ownAt c y 0).val = 4096 * (c.val / 4) + (y 0).val := by
    show k0_off1 c 0 + 1 * (y 0).val = _
    rw [k0_off1_eq, Nat.one_mul]; rfl
  have e1 : (ownAt c y 1).val = (y 1).val := by
    show k0_off1 c 1 + 1 * (y 1).val = _
    rw [k0_off1_eq, Nat.one_mul]; exact Nat.zero_add _
  have hp : pick c (ownAt c y) = (xOwn c).view.emb y := by
    funext a
    apply Fin.ext
    fin_cases a
    · show (ownAt c y 0).val % 4096 = k0_off2 c 0 + 1 * (y 0).val
      rw [e0, k0_off2_eq]
      show _ = 0 + 1 * (y 0).val
      omega
    · show 1024 * (c.val / 4) + (ownAt c y 1).val = k0_off2 c 1 + 1 * (y 1).val
      rw [e1, k0_off2_eq]
      show _ = 1024 * (c.val / 4) + 1 * (y 1).val
      omega
  show (if (ownAt c y 0).val / 4096 = c.val / 4 then xVal m c (pick c (ownAt c y)) else _)
    = xVal m c ((xOwn c).view.emb y)
  rw [if_pos (by rw [e0]; omega), hp]

omit [FloatOps F] in
/-- And the others are the partner's blocks. -/
theorem T_chunk (c : Dev nD) (j : Fin 8) : (yChunk c j).view.read (Elt F) (T m c) = chunk m (peer c) j := by
  have hc := div_lt c
  have hq := peer_div c
  have hj := j.isLt
  funext y
  have hy0 : (y 0).val < 512 := (y 0).isLt
  have e0 : (chunkAt c j y 0).val = 512 * j.val + 4096 - 4096 * (c.val / 4) + (y 0).val := by
    show k0_off11 c (BitVec.ofNat 32 (512 * j.val)) 0 + 1 * (y 0).val = _
    rw [k0_off11_eq, Nat.one_mul]; rfl
  have e1 : (chunkAt c j y 1).val = (y 1).val := by
    show k0_off11 c (BitVec.ofNat 32 (512 * j.val)) 1 + 1 * (y 1).val = _
    rw [k0_off11_eq, Nat.one_mul]; exact Nat.zero_add _
  have hp : pick c (chunkAt c j y) = (xChunk (peer c) j).view.emb y := by
    funext a
    apply Fin.ext
    fin_cases a
    · show (chunkAt c j y 0).val % 4096 = xOff (peer c) j 0 + 1 * (y 0).val
      rw [e0, xOff_eq]
      show _ = 512 * j.val + 1 * (y 0).val
      omega
    · show 1024 * (c.val / 4) + (chunkAt c j y 1).val = xOff (peer c) j 1 + 1 * (y 1).val
      rw [e1, xOff_eq]
      show _ = 1024 - 1024 * ((peer c).val / 4) + 1 * (y 1).val
      omega
  show (if (chunkAt c j y 0).val / 4096 = c.val / 4 then _ else xVal m (peer c) (pick c (chunkAt c j y)))
    = xVal m (peer c) ((xChunk (peer c) j).view.emb y)
  rw [if_neg (by rw [e0]; omega), hp]

omit [FloatOps F] in
/-- A view that reads as a buffer does is held at that buffer. -/
theorem hold_pts (c : Dev nD) {sp : Space} {s : Shape} {e : EltTy} (v : Memref sig .tc sp s e)
    (f : Buf (Elt F) (v.view.loc (c : Thread nD τ))) {X : s.Idx → Elt F e} (h : v.view.read (Elt F) f = X) :
    (hold c v X : sProp 𝕄) ⊢ v.view.loc (c : Thread nD τ) ↦[v.view.set]{fullShare} f := by
  subst h
  unfold hold
  refine exists_elim fun g => ?_
  iintro ⟨%hg, H⟩
  have e : (v.view.loc (c : Thread nD τ) ↦[v.view.set]{fullShare} g : sProp 𝕄)
      = (v.view.loc (c : Thread nD τ) ↦[v.view.set]{fullShare} f) :=
    pointsTo_congr fun i hi => by
      obtain ⟨j, -, rfl⟩ := Finset.mem_map.mp hi
      have h := congrFun hg j
      rw [View.read_apply, View.read_apply] at h
      exact (cast_bijective _).1 h
  rw [← e]
  iexact H

omit [FloatOps F] in
/-- The own half and the partner's blocks, in place, are the result. -/
theorem y_join (c : Dev nD) :
    (iprop(hold c (yOwn c) (ownVal m c) ∗ bigSep Finset.univ fun j : Fin 8 => hold c (yChunk c j) (chunk m (peer c) j)) : sProp 𝕄)
      ⊢ (c : Thread nD τ).loc main_v1 ↦{fullShare} T m c := by
  have e : ((c : Thread nD τ).loc main_v1 ↦{fullShare} T m c : sProp 𝕄)
      = iprop(((c : Thread nD τ).loc main_v1 ↦[(yOwn c).view.set]{fullShare} T m c)
          ∗ bigSep Finset.univ fun j : Fin 8 => (c : Thread nD τ).loc main_v1 ↦[(yChunk c j).view.set]{fullShare} T m c) := by
    rw [pointsTo_blocks (ℓ := (c : Thread nD τ).loc main_v1) (yPart c) (yPart_disjoint c) (yPart_cover c), bigSep_univ_sum]
    congr 1
    exact bigSep_univ_of_subsingleton ()
  rw [e]
  exact Laws.sep_mono (hold_pts c (yOwn c) (T m c) (T_own m c))
    (bigSep_mono fun j _ => hold_pts c (yChunk c j) (T m c) (T_chunk m c j))

/-! ## The layout -/

/-- A device's place along the first axis of the mesh. -/
theorem mesh_place (c : ℕ) (h : c / 4 < 2) : Layout.meshLin [2, 2, 2] c [0] = c / 4 := by
  show c / 4 % 2 * 1 + 0 = c / 4
  omega

omit [FloatOps F] in
/-- When the devices' inputs are the row blocks of one array, their results are its column blocks. -/
theorem T_layout (v : (⟨2, ![8192, 2048]⟩ : Shape).Idx → Elt F .bf16)
    (h : ∀ c : Dev nD, xVal m c = Layout.blockN ⟨2, ![4096, 2048]⟩ ⟨2, ![8192, 2048]⟩ (Layout.meshBlock [2, 2, 2] ![[0], []] c) v)
    (c : Dev nD) :
    T m c = Layout.blockN ⟨2, ![8192, 1024]⟩ ⟨2, ![8192, 2048]⟩ (Layout.meshBlock [2, 2, 2] ![[], [0]] c) v := by
  have at_ : ∀ (d : Dev nD) (i : S8192x1024.Idx), (i 0).val / 4096 = d.val / 4 →
      xVal m d (pick c i)
        = (Layout.blockN ⟨2, ![8192, 1024]⟩ ⟨2, ![8192, 2048]⟩ (Layout.meshBlock [2, 2, 2] ![[], [0]] c) v) i := by
    intro d i hi
    refine (congrFun (h d) (pick c i)).trans (congrArg v (funext fun a => Fin.ext ?_))
    fin_cases a
    · show Layout.meshLin [2, 2, 2] d.val [0] * 4096 + (i 0).val % 4096 = 0 * 8192 + (i 0).val
      rw [mesh_place _ (div_lt d)]
      omega
    · show 0 * 2048 + (1024 * (c.val / 4) + (i 1).val) = Layout.meshLin [2, 2, 2] c.val [0] * 1024 + (i 1).val
      rw [mesh_place _ (div_lt c)]
      omega
  have hc := div_lt c
  have hq := peer_div c
  funext i
  have h0 : ((i : S8192x1024.Idx) 0).val < 8192 := ((i : S8192x1024.Idx) 0).isLt
  show (if ((i : S8192x1024.Idx) 0).val / 4096 = c.val / 4 then xVal m c (pick c i) else xVal m (peer c) (pick c i)) = _
  by_cases hi : ((i : S8192x1024.Idx) 0).val / 4096 = c.val / 4
  · rw [if_pos hi]; exact at_ c i hi
  · rw [if_neg hi]; exact at_ (peer c) i (by omega)

end Cert.AllToAll
-- ==== Proof.Run.lean ====
/-
The program of one device, run from what the launch gives it to its finished result.
-/
module

public import proofs.«01_k».proof.Proof.Result

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ)

/-- What every step may use again and again: the shared cells' rounds, and the order of the waits. -/
def known : sProp 𝕄 := iprop(records m K ∗ levAts L lv)

instance known_persistent : BI.Persistent (known (F := F) m K) := by unfold known; infer_instance

/-- A run of steps: if each step takes `I a` to `I (a + 1)`, the run takes `I a` to `I (a + n)`. -/
theorem wp_steps (c : Dev nD) (I : ℕ → sProp 𝕄) (f : ℕ → KProg F → KProg F) (Q : PUnit → sProp 𝕄)
    (h : ∀ a, a < 8 → ∀ k, iprop(known m K ∗ I a) ⊢ iprop((I (a + 1) -∗ Wp c k Q) -∗ Wp c (f a k) Q))
    (k : KProg F) : ∀ n a, a + n ≤ 8 → iprop(known m K ∗ I a) ⊢ iprop((I (a + n) -∗ Wp c k Q) -∗ Wp c (steps f n a k) Q)
  | 0, a, _ => by
    unfold steps
    iintro ⟨-, HI⟩ Hk
    iapply Hk; iexact HI
  | n + 1, a, ha => by
    unfold steps
    iintro ⟨#HR, HI⟩ Hk
    iapply (h a (by omega) _) $$ [HI]
    · isplitr; · iexact HR
      iexact HI
    iintro HI
    iapply (wp_steps c I f Q h k n (a + 1) (by omega)) $$ [HI]
    · isplitr; · iexact HR
      iexact HI
    rw [show a + 1 + n = a + (n + 1) by omega]
    iexact Hk

omit [FloatOps F] in
/-- The first `n + 1` blocks are the first `n` and one more. -/
theorem range_last (Φ : Fin 8 → sProp 𝕄) {n : ℕ} (h : n < 8) :
    bigSep (rangeSet 8 0 (n + 1)) Φ = iprop(Φ ⟨n, h⟩ ∗ bigSep (rangeSet 8 0 n) Φ) :=
  bigSep_rangeSet_last (Nat.succ_pos n) h

/-! ## The send steps -/

/-- Before send step `n`: the block's copy in is under way, while there is one. -/
def inPre (c : Dev nD) (n : ℕ) : sProp 𝕄 := if n < 8 then inBusy m c (bk n) else inFree m c (par (bk n))

/-- Starting the next block's copy in, while there is one. -/
theorem wp_nextIn (c : Dev nD) (n : ℕ) (p : KProg F) (Q : PUnit → sProp 𝕄) :
    inFree m c (par (bk n)) ⊢ iprop((inPre m c n -∗ Wp c p Q) -∗ Wp c (if n < 8 then inStart c (bk n) p else p) Q) := by
  unfold inPre
  by_cases h : n < 8
  · simp only [if_pos h]; exact wp_inStart m c _ p Q
  · simp only [if_neg h]
    iintro H Hk
    iapply Hk; iexact H

/-- Before send step `n`: the send slot is idle at first, later the block two before is leaving it. -/
def sendPre (c : Dev nD) (n : ℕ) : sProp 𝕄 := if 2 ≤ n then sendBusy c (n - 2) else sendFree c n

/-- Waiting for the send slot, when a block is leaving it. -/
theorem wp_sendSlot (c : Dev nD) {n : ℕ} (hn : n < 10) (i : ℕ) (p : KProg F) (Q : PUnit → sProp 𝕄) :
    iprop(known m K ∗ sendPre c n ∗ owed c i)
      ⊢ iprop((iprop(sendFree c n ∗ owed c i) -∗ Wp c p Q) -∗ Wp c (if 2 ≤ n then sendWait (bk (n - 2)) p else p) Q) := by
  unfold sendPre known
  by_cases h : 2 ≤ n
  · simp only [if_pos h]
    obtain ⟨k, rfl⟩ := Nat.exists_eq_add_of_le' h
    simp only [Nat.add_sub_cancel]
    iintro ⟨⟨#HR, #HL⟩, Hs, HO⟩
    iapply (wp_sendWait m K c (by omega : k < 8) i p Q)
    isplitr; · iexact HR
    isplitr; · iexact HL
    isplitl [Hs]; · iexact Hs
    iexact HO
  · simp only [if_neg h]
    iintro ⟨-, H⟩ Hk
    iapply Hk; iexact H

/-- What the blocks from number `n` on need to be sent: the partner's receive slots and the right to pay the credits. -/
def todo (c : Dev nD) (n : ℕ) : sProp 𝕄 :=
  bigSep (rangeSet 8 n 8) fun j : Fin 8 => iprop(anyPts (peer c) (sl8 rM j)
    ∗ dutyTok ER (sendCell c (par j)) (j.val / 2) () ∗ dutyTok ER (recvCell (peer c) j) 0 ())

omit [FloatOps F] in
theorem todo_head (c : Dev nD) {n : ℕ} (h : n < 8) :
    (todo c n : sProp 𝕄) ⊢ iprop((anyPts (peer c) (sl8 rM (bk n)) ∗ dutyTok ER (sendCell c (par (bk n))) (n / 2) ()
      ∗ dutyTok ER (recvCell (peer c) (bk n)) 0 ()) ∗ todo c (n + 1)) := by
  unfold todo
  rw [bigSep_rangeSet_head h h, bk_of_lt h]

/-- Before send step `n`. -/
def sendInv (c : Dev nD) (n : ℕ) : sProp 𝕄 :=
  iprop(inPre m c n ∗ inFree m c (par (bk (n + 1))) ∗ sendPre c n ∗ sendPre c (n + 1) ∗ owed c n ∗ todo c n)

/-- One send step. -/
theorem wp_sendStep (c : Dev nD) (Q : PUnit → sProp 𝕄) (n : ℕ) (hn : n < 8) (k : KProg F) :
    iprop(known m K ∗ sendInv m c n) ⊢ iprop((sendInv m c (n + 1) -∗ Wp c k Q) -∗ Wp c (sendStep c n k) Q) := by
  unfold sendInv sendStep
  iintro ⟨#HK, Hin, Hin', Hs, Hs', HO, Ht⟩ Hk
  iapply (wp_nextIn m c (n + 1)) $$ Hin'
  iintro Hin'
  ihave Hin := (Entails.of_eq (show inPre m c n = inBusy m c (bk n) from if_pos hn)) $$ Hin
  iapply (wp_inWait m c (bk n) n) $$ [Hin HO]
  · isplitr; · unfold known; icases HK with ⟨-, HL⟩; iexact HL
    isplitl [Hin]; · iexact Hin
    iexact HO
  iintro ⟨Ha, Hx, Hv, HO⟩
  iapply (wp_sendSlot m K c (by omega : n < 10) n) $$ [Hs HO]
  · isplitr; · iexact HK
    isplitl [Hs]; · iexact Hs
    iexact HO
  unfold sendFree
  iintro ⟨⟨Hb, Hat, #Hr⟩, HO⟩
  iapply (wp_stage c (par (bk n)) (chunk m c (bk n))) $$ [Ha Hb]
  · isplitl [Ha]; · iexact Ha
    iexact Hb
  iintro ⟨Ha, Hb⟩
  ihave Ht := (todo_head c hn) $$ Ht
  icases Ht with ⟨⟨Hp, Hd, Hd'⟩, Ht⟩
  iapply (wp_send m K c hn) $$ [Hb Hp HO Hd Hd']
  · isplitr; · unfold known; icases HK with ⟨HR, -⟩; iexact HR
    isplitl [Hb]; · iexact Hb
    isplitl [Hp]; · iexact Hp
    isplitl [HO]; · iexact HO
    isplitl [Hd]; · iexact Hd
    isplitr; · iexact Hr
    iexact Hd'
  iintro ⟨Hc, HO⟩
  iapply Hk
  isplitl [Hin']; · iexact Hin'
  isplitl [Ha Hx Hv]
  · rw [show n + 1 + 1 = n + 2 from rfl, par_bk]
    unfold inFree
    isplitl [Hx]; · iexact Hx
    isplitl [Ha]; · iapply (hold_any c (sl2 aM (par (bk n))) _); iexact Ha
    iexact Hv
  isplitl [Hs']; · iexact Hs'
  isplitl [Hc Hat]
  · unfold sendPre
    rw [if_pos (by omega : 2 ≤ n + 1 + 1), show n + 1 + 1 - 2 = n by omega]
    unfold sendBusy
    isplitl [Hc]; · iexact Hc
    iexact Hat
  isplitl [HO]; · iexact HO
  iexact Ht

/-! ## The receive steps -/

/-- Before receive step `n`: the outgoing slot is idle at first, later the block two before is leaving it. -/
def outPre (c : Dev nD) (n : ℕ) : sProp 𝕄 := if 2 ≤ n then outBusy m c (bk (n - 2)) else outFree c (par (bk n))

/-- Block `j`'s part of the result, finished. -/
def outHeld (c : Dev nD) (j : Fin 8) : sProp 𝕄 := hold c (yChunk c j) (chunk m (peer c) j)

/-- The first `n` blocks' parts of the result, finished. -/
def outDone (c : Dev nD) (n : ℕ) : sProp 𝕄 := bigSep (rangeSet 8 0 n) fun j : Fin 8 => outHeld m c j

omit [FloatOps F] in
theorem outDone_last (c : Dev nD) {n : ℕ} (h : n < 8) : iprop(outHeld m c (bk n) ∗ outDone m c n) ⊢ (outDone m c (n + 1) : sProp 𝕄) := by
  unfold outDone
  rw [bk_of_lt h, range_last _ h]

/-- Waiting for the outgoing slot, when a block is leaving it. -/
theorem wp_outSlot (c : Dev nD) {n : ℕ} (hn : n < 10) (p : KProg F) (Q : PUnit → sProp 𝕄) :
    iprop(outPre m c n ∗ outDone m c (n - 2) ∗ owed c 8)
      ⊢ iprop((iprop(outFree c (par (bk n)) ∗ outDone m c (n + 1 - 2) ∗ owed c 8) -∗ Wp c p Q)
        -∗ Wp c (if 2 ≤ n then outWait c (bk (n - 2)) p else p) Q) := by
  unfold outPre
  by_cases h : 2 ≤ n
  · simp only [if_pos h]
    obtain ⟨k, rfl⟩ := Nat.exists_eq_add_of_le' h
    rw [par_bk, show k + 2 + 1 - 2 = k + 1 by omega, show k + 2 - 2 = k by omega]
    iintro ⟨Ho, Hd, HO⟩ Hk
    iapply (wp_outWait m c (bk k)) $$ [Ho HO]
    · isplitl [Ho]; · iexact Ho
      iexact HO
    iintro ⟨Hy, Ho, HO⟩
    iapply Hk
    isplitl [Ho]; · iexact Ho
    isplitl [Hy Hd]
    · iapply (outDone_last m c (by omega : k < 8))
      unfold outHeld
      isplitl [Hy]; · iexact Hy
      iexact Hd
    iexact HO
  · simp only [if_neg h]
    rw [show n + 1 - 2 = n - 2 by omega]
    iintro H Hk
    iapply Hk; iexact H

/-- What the blocks from number `n` on need to be received: the credits, and the blocks' parts of the result. -/
def recvTodo (c : Dev nD) (n : ℕ) : sProp 𝕄 :=
  bigSep (rangeSet 8 n 8) fun j : Fin 8 => iprop((cred (tallyAt (recvCell c j) () N) ∗ atPos ER (recvCell c j) 0 ∅ 0) ∗ anyPts c (yChunk c j))

omit [FloatOps F] in
theorem recvTodo_head (c : Dev nD) {n : ℕ} (h : n < 8) :
    (recvTodo c n : sProp 𝕄) ⊢ iprop(((cred (tallyAt (recvCell c (bk n)) () N) ∗ atPos ER (recvCell c (bk n)) 0 ∅ 0) ∗ anyPts c (yChunk c (bk n)))
      ∗ recvTodo c (n + 1)) := by
  unfold recvTodo
  rw [bigSep_rangeSet_head h h, bk_of_lt h]

/-- The slots and semaphores of the first `n` blocks, given back. -/
def recvDone (c : Dev nD) (n : ℕ) : sProp 𝕄 :=
  bigSep (rangeSet 8 0 n) fun j : Fin 8 => iprop(anyPts c (sl8 rM j) ∗ semVal (recvCell c j) 0)

omit [FloatOps F] in
theorem recvDone_last (c : Dev nD) {n : ℕ} (h : n < 8) :
    iprop((anyPts c (sl8 rM (bk n)) ∗ semVal (recvCell c (bk n)) 0) ∗ recvDone c n) ⊢ (recvDone c (n + 1) : sProp 𝕄) := by
  unfold recvDone
  rw [bk_of_lt h, range_last _ h]

/-- Before receive step `n`. -/
def recvInv (c : Dev nD) (n : ℕ) : sProp 𝕄 :=
  iprop(outPre m c n ∗ outPre m c (n + 1) ∗ outDone m c (n - 2) ∗ owed c 8 ∗ recvTodo c n ∗ recvDone c n)

/-- One receive step. -/
theorem wp_recvStep (c : Dev nD) (Q : PUnit → sProp 𝕄) (n : ℕ) (hn : n < 8) (k : KProg F) :
    iprop(known m K ∗ recvInv m c n) ⊢ iprop((recvInv m c (n + 1) -∗ Wp c k Q) -∗ Wp c (recvStep c n k) Q) := by
  unfold recvInv recvStep
  iintro ⟨#HK, Ho, Ho', Hd, HO, Ht, Hr⟩ Hk
  ihave Ht := (recvTodo_head c hn) $$ Ht
  icases Ht with ⟨⟨Hc, Hy⟩, Ht⟩
  iapply (wp_recvWait m K c (bk n)) $$ [Hc HO]
  · isplitr; · unfold known; icases HK with ⟨HR, -⟩; iexact HR
    isplitl [Hc]; · iexact Hc
    iexact HO
  iintro ⟨Hb, Hz, HO⟩
  iapply (wp_outSlot m c (by omega : n < 10)) $$ [Ho Hd HO]
  · isplitl [Ho]; · iexact Ho
    isplitl [Hd]; · iexact Hd
    iexact HO
  unfold outFree
  iintro ⟨⟨Ho, Hv⟩, Hd, HO⟩
  iapply (wp_unstage c (bk n) (chunk m (peer c) (bk n))) $$ [Hb Ho]
  · isplitl [Hb]; · iexact Hb
    iexact Ho
  iintro ⟨Hb, Ho⟩
  iapply (wp_outStart m c (bk n)) $$ [Ho Hy Hv]
  · isplitl [Ho]; · iexact Ho
    isplitl [Hy]; · iexact Hy
    iexact Hv
  iintro Ho
  iapply Hk
  isplitl [Ho']; · iexact Ho'
  isplitl [Ho]
  · unfold outPre
    rw [if_pos (by omega : 2 ≤ n + 1 + 1), show n + 1 + 1 - 2 = n by omega]
    iexact Ho
  isplitl [Hd]; · iexact Hd
  isplitl [HO]; · iexact HO
  isplitl [Ht]; · iexact Ht
  iapply (recvDone_last c hn)
  isplitl [Hb Hz]
  · isplitl [Hb]; · iapply (hold_any c (sl8 rM (bk n)) _); iexact Hb
    iexact Hz
  iexact Hr

/-! ## The end of the program -/

/-- Closing a send slot's cell after its last block. -/
theorem send_close (c : Dev nD) (s : Fin 2) :
    iprop(records m K ∗ atPos ER (sendCell c s) 4 ∅ 0) ⊢ (|={Set.univ}=> semVal (sendCell c s) 0 : sProp 𝕄) := by
  iintro ⟨#HR, Hat⟩
  iapply (Rounds.cell_close ER (sched m) (Set.mem_univ (K (c, .inr (.inl s)))) (fun h => h) (R := 4) (duties_over m (rounds_send s).le))
  isplitr; · iapply (records_inv m K (c, .inr (.inl s))); iexact HR
  iexact Hat

/-- Before the last waits. -/
def finishPre (c : Dev nD) : sProp 𝕄 :=
  iprop(sendBusy c 6 ∗ sendBusy c 7 ∗ outBusy m c (bk 6) ∗ outBusy m c (bk 7) ∗ outDone m c 6 ∗ ownBusy m c ∗ owed c 8)

/-- After them. -/
def finishPost (c : Dev nD) : sProp 𝕄 :=
  iprop((anyPts c (sl2 bM 0) ∗ anyPts c (sl2 bM 1)) ∗ (semVal (sendCell c 0) 0 ∗ semVal (sendCell c 1) 0)
    ∗ (outFree c 0 ∗ outFree c 1) ∗ outDone m c 8
    ∗ hold c (yOwn c) (ownVal m c) ∗ xPart m c fullShare.left ∗ semVal ((c : Thread nD τ), .dma ownSem) 0 ∗ owed c 8)

/-- The last waits. -/
theorem wp_finish (c : Dev nD) (k : KProg F) (Q : PUnit → sProp 𝕄) :
    iprop(known m K ∗ finishPre m c) ⊢ iprop((finishPost m c -∗ Wp c k Q) -∗ Wp c (finish c k) Q) := by
  unfold finishPre finishPost finish known
  iintro ⟨⟨#HR, #HL⟩, Hs, Hs', Ho, Ho', Hd, Hw, HO⟩ Hk
  iapply (wp_sendWait m K c (by decide : 6 < 8) 8) $$ [Hs HO]
  · isplitr; · iexact HR
    isplitr; · iexact HL
    isplitl [Hs]; · iexact Hs
    iexact HO
  iintro ⟨Hs, HO⟩
  iapply (wp_sendWait m K c (by decide : 7 < 8) 8) $$ [Hs' HO]
  · isplitr; · iexact HR
    isplitr; · iexact HL
    isplitl [Hs']; · iexact Hs'
    iexact HO
  iintro ⟨Hs', HO⟩
  iapply (wp_outWait m c (bk 6)) $$ [Ho HO]
  · isplitl [Ho]; · iexact Ho
    iexact HO
  iintro ⟨Hy, Ho, HO⟩
  iapply (wp_outWait m c (bk 7)) $$ [Ho' HO]
  · isplitl [Ho']; · iexact Ho'
    iexact HO
  iintro ⟨Hy', Ho', HO⟩
  iapply (wp_ownWait m c) $$ [Hw HO]
  · isplitl [Hw]; · iexact Hw
    iexact HO
  iintro ⟨Hw, Hx, Hv, HO⟩
  unfold sendFree
  icases Hs with ⟨Hb, Hat, -⟩
  icases Hs' with ⟨Hb', Hat', -⟩
  imod (send_close m K c 0) $$ [Hat] with Hz
  · isplitr; · iexact HR
    iexact Hat
  imod (send_close m K c 1) $$ [Hat'] with Hz'
  · isplitr; · iexact HR
    iexact Hat'
  iapply Hk
  isplitl [Hb Hb']
  · isplitl [Hb]; · iexact Hb
    iexact Hb'
  isplitl [Hz Hz']
  · isplitl [Hz]; · iexact Hz
    iexact Hz'
  isplitl [Ho Ho']
  · isplitl [Ho]; · iexact Ho
    iexact Ho'
  isplitl [Hd Hy Hy']
  · iapply (outDone_last m c (by decide : 7 < 8))
    isplitl [Hy']; · unfold outHeld; iexact Hy'
    iapply (outDone_last m c (by decide : 6 < 8))
    isplitl [Hy]; · unfold outHeld; iexact Hy
    iexact Hd
  isplitl [Hw]; · iexact Hw
  isplitl [Hx]; · iexact Hx
  isplitl [Hv]; · iexact Hv
  iexact HO

end Cert.AllToAll
-- ==== Proof.Device.lean ====
/-
The whole program of one device: the barrier, the send steps, the receive steps, the last waits.
-/
module

public import proofs.«01_k».proof.Proof.Run

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ)

/-! ## What a device holds -/

/-- The semaphores of the copies inside the device, at zero. -/
def localSems (c : Dev nD) : sProp 𝕄 :=
  iprop((semVal ((c : Thread nD τ), .dma (inSem 0)) 0 ∗ semVal ((c : Thread nD τ), .dma (inSem 1)) 0)
    ∗ (semVal ((c : Thread nD τ), .dma (outSem 0)) 0 ∗ semVal ((c : Thread nD τ), .dma (outSem 1)) 0)
    ∗ semVal ((c : Thread nD τ), .dma ownSem) 0)

/-- The three scratch buffers the partner does not write. -/
def ownScratch (c : Dev nD) : sProp 𝕄 :=
  iprop(anyBuf ((c : Thread nD τ).loc cc0_scratch0) ∗ anyBuf ((c : Thread nD τ).loc cc0_scratch1) ∗ anyBuf ((c : Thread nD τ).loc cc0_scratch3))

/-- The device's places in the rounds of its own send and arrival cells. -/
def places (c : Dev nD) : sProp 𝕄 :=
  iprop((atPos ER (sendCell c 0) 0 ∅ 0 ∗ atPos ER (sendCell c 1) 0 ∅ 0) ∗ bigSep Finset.univ fun j : Fin 8 => atPos ER (recvCell c j) 0 ∅ 0)

/-- The credits of the blocks the device will receive. -/
def recvCreds (c : Dev nD) : sProp 𝕄 := bigSep Finset.univ fun j : Fin 8 => cred (tallyAt (recvCell c j) () N)

/-- The right to pay the credits of the blocks the device will send. -/
def payToks (c : Dev nD) : sProp 𝕄 :=
  iprop((bigSep Finset.univ fun j : Fin 8 => dutyTok ER (sendCell c (par j)) (j.val / 2) ())
    ∗ bigSep Finset.univ fun j : Fin 8 => dutyTok ER (recvCell (peer c) j) 0 ())

/-- After the barrier: everything of the device's own but its receive buffer, and the partner's receive buffer. -/
def afterPre (c : Dev nD) : sProp 𝕄 :=
  iprop(xPart m c fullShare ∗ anyBuf ((c : Thread nD τ).loc main_v1) ∗ ownScratch c ∗ localSems c ∗ places c ∗ recvCreds c ∗ payToks c
    ∗ anyBuf ((peer c : Thread nD τ).loc cc0_scratch2) ∗ owed c 0)

/-- At the end: the input as it was, the result, the scratch buffers, and the semaphores at zero. -/
def afterPost (c : Dev nD) : sProp 𝕄 :=
  iprop(xPart m c fullShare ∗ ((c : Thread nD τ).loc main_v1 ↦{fullShare} T m c) ∗ ownScratch c ∗ anyBuf ((c : Thread nD τ).loc cc0_scratch2)
    ∗ localSems c ∗ (semVal (sendCell c 0) 0 ∗ semVal (sendCell c 1) 0) ∗ (bigSep Finset.univ fun j : Fin 8 => semVal (recvCell c j) 0) ∗ owed c 8)

/-! ## Before the first step and after the last -/

theorem par_even (n : ℕ) (h : n % 2 = 0) : par (bk n) = 0 := by
  apply Fin.ext; show n % 8 % 2 = 0; omega
theorem par_odd (n : ℕ) (h : n % 2 = 1) : par (bk n) = 1 := by
  apply Fin.ext; show n % 8 % 2 = 1; omega

omit [FloatOps F] in
/-- The partner's receive buffer and the rights to pay are what the eight blocks need. -/
theorem todo_intro (c : Dev nD) : iprop(anyBuf ((peer c : Thread nD τ).loc cc0_scratch2) ∗ payToks c) ⊢ (todo c 0 : sProp 𝕄) := by
  have e : (todo c 0 : sProp 𝕄) = iprop((bigSep Finset.univ fun j : Fin 8 => anyPts (peer c) (sl8 rM j)) ∗ payToks c) := by
    unfold todo payToks
    rw [rangeSet_univ, bigSep_sep', bigSep_sep']
  rw [e]
  exact sep_mono_left (rM_split (peer c))

omit [FloatOps F] in
/-- The credits, the places and the parts of the result are what the eight arrivals need. -/
theorem recvTodo_intro (c : Dev nD) :
    iprop(recvCreds c ∗ (bigSep Finset.univ fun j : Fin 8 => atPos ER (recvCell c j) 0 ∅ 0) ∗ bigSep Finset.univ fun j : Fin 8 => anyPts c (yChunk c j))
      ⊢ (recvTodo c 0 : sProp 𝕄) := by
  have e : (recvTodo c 0 : sProp 𝕄) = iprop((recvCreds c ∗ bigSep Finset.univ fun j : Fin 8 => atPos ER (recvCell c j) 0 ∅ 0)
      ∗ bigSep Finset.univ fun j : Fin 8 => anyPts c (yChunk c j)) := by
    unfold recvTodo recvCreds
    rw [rangeSet_univ, bigSep_sep', bigSep_sep']
  rw [e]
  exact sep_assoc.2

omit [FloatOps F] in
/-- After the eight arrivals the receive buffer is whole and its semaphores are at zero. -/
theorem recvDone_elim (c : Dev nD) :
    (recvDone c 8 : sProp 𝕄) ⊢ iprop(anyBuf ((c : Thread nD τ).loc cc0_scratch2) ∗ bigSep Finset.univ fun j : Fin 8 => semVal (recvCell c j) 0) := by
  unfold recvDone
  rw [rangeSet_univ, bigSep_sep']
  exact sep_mono_left (rM_join c)

omit [FloatOps F] in
theorem recvDone_zero (c : Dev nD) : (emp : sProp 𝕄) ⊢ recvDone c 0 := by
  unfold recvDone; rw [bigSep_rangeSet_empty le_rfl]

omit [FloatOps F] in
theorem outDone_zero (c : Dev nD) : (emp : sProp 𝕄) ⊢ outDone m c 0 := by
  unfold outDone; rw [bigSep_rangeSet_empty le_rfl]

omit [FloatOps F] in
/-- The finished parts are the result. -/
theorem result_intro (c : Dev nD) :
    iprop(hold c (yOwn c) (ownVal m c) ∗ outDone m c 8) ⊢ ((c : Thread nD τ).loc main_v1 ↦{fullShare} T m c : sProp 𝕄) := by
  unfold outDone outHeld
  rw [rangeSet_univ]
  exact y_join m c

theorem sendPre_late (c : Dev nD) {n : ℕ} (h : 2 ≤ n) : (sendPre c n : sProp 𝕄) = sendBusy c (n - 2) := if_pos h
theorem outPre_late (c : Dev nD) {n : ℕ} (h : 2 ≤ n) : outPre m c n = outBusy m c (bk (n - 2)) := if_pos h

/-- The program after the barrier. -/
theorem wp_afterBarrier (c : Dev nD) (k : KProg F) (Q : PUnit → sProp 𝕄) :
    iprop(known m K ∗ afterPre m c) ⊢ iprop((afterPost m c -∗ Wp c k Q) -∗ Wp c (afterBarrier c k) Q) := by
  unfold afterPre ownScratch localSems places afterBarrier
  iintro ⟨#HK, Hx, Hy, ⟨Ha, Hb, Ho⟩, ⟨⟨Hi0, Hi1⟩, ⟨Ho0, Ho1⟩, Hw⟩, ⟨⟨Hs0, Hs1⟩, Hat⟩, Hc, Ht, Hp, HO⟩ Hk
  ihave Hx := (xPart_shares m c).1 $$ Hx
  icases Hx with ⟨Hx, Hx0, Hx1⟩
  ihave Hy := (y_split c) $$ Hy
  icases Hy with ⟨Hyo, Hy⟩
  ihave Ha := (aM_split c) $$ Ha
  icases Ha with ⟨Ha0, Ha1⟩
  ihave Hb := (bM_split c) $$ Hb
  icases Hb with ⟨Hb0, Hb1⟩
  ihave Ho := (oM_split c) $$ Ho
  icases Ho with ⟨Hp0, Hp1⟩
  ihave Ht := (todo_intro c) $$ [Hp Ht]
  · isplitl [Hp]; · iexact Hp
    iexact Ht
  ihave Hr := (recvTodo_intro c) $$ [Hc Hat Hy]
  · isplitl [Hc]; · iexact Hc
    isplitl [Hat]; · iexact Hat
    iexact Hy
  -- the device's own half, and the first block's copy in
  iapply (wp_ownStart m c) $$ [Hx Hyo Hw]
  · isplitl [Hx]; · iexact Hx
    isplitl [Hyo]; · iexact Hyo
    iexact Hw
  iintro Hw
  iapply (wp_inStart m c (bk 0)) $$ [Hx0 Ha0 Hi0]
  · rw [par_even 0 rfl]; unfold inFree
    isplitl [Hx0]; · iexact Hx0
    isplitl [Ha0]; · iexact Ha0
    iexact Hi0
  iintro Hi0
  -- the send steps
  iapply (wp_steps m K c (sendInv m c) (sendStep c) Q (wp_sendStep m K c Q) _ 8 0 le_rfl) $$ [Hi0 Hx1 Ha1 Hi1 Hb0 Hb1 Hs0 Hs1 HO Ht]
  · isplitr; · iexact HK
    unfold sendInv
    isplitl [Hi0]; · unfold inPre; rw [if_pos (by decide : 0 < 8)]; iexact Hi0
    isplitl [Hx1 Ha1 Hi1]
    · rw [par_odd (0 + 1) rfl]; unfold inFree
      isplitl [Hx1]; · iexact Hx1
      isplitl [Ha1]; · iexact Ha1
      iexact Hi1
    isplitl [Hb0 Hs0]
    · unfold sendPre; rw [if_neg (by decide : ¬ 2 ≤ 0)]
      unfold sendFree; rw [par_even 0 rfl]
      isplitl [Hb0]; · iexact Hb0
      isplitl [Hs0]; · iexact Hs0
      unfold known; icases HK with ⟨HR, -⟩
      iapply (records_reached m K (c, .inr (.inl 0))); iexact HR
    isplitl [Hb1 Hs1]
    · unfold sendPre; rw [if_neg (by decide : ¬ 2 ≤ 0 + 1)]
      unfold sendFree; rw [par_odd (0 + 1) rfl]
      isplitl [Hb1]; · iexact Hb1
      isplitl [Hs1]; · iexact Hs1
      unfold known; icases HK with ⟨HR, -⟩
      iapply (records_reached m K (c, .inr (.inl 1))); iexact HR
    isplitl [HO]; · iexact HO
    iexact Ht
  rw [Nat.zero_add]
  unfold sendInv
  iintro ⟨Hi0, Hi1, Hs0, Hs1, HO, -⟩
  -- the receive steps
  iapply (wp_steps m K c (recvInv m c) (recvStep c) Q (wp_recvStep m K c Q) _ 8 0 le_rfl) $$ [Hp0 Hp1 Ho0 Ho1 HO Hr]
  · isplitr; · iexact HK
    unfold recvInv
    isplitl [Hp0 Ho0]
    · unfold outPre; rw [if_neg (by decide : ¬ 2 ≤ 0), par_even 0 rfl]; unfold outFree
      isplitl [Hp0]; · iexact Hp0
      iexact Ho0
    isplitl [Hp1 Ho1]
    · unfold outPre; rw [if_neg (by decide : ¬ 2 ≤ 0 + 1), par_odd (0 + 1) rfl]; unfold outFree
      isplitl [Hp1]; · iexact Hp1
      iexact Ho1
    isplitr; · iapply (outDone_zero m c); iempintro
    isplitl [HO]; · iexact HO
    isplitl [Hr]; · iexact Hr
    iapply (recvDone_zero c); iempintro
  rw [Nat.zero_add]
  unfold recvInv
  iintro ⟨Ho0, Ho1, Hd, HO, -, Hr⟩
  -- the last waits
  iapply (wp_finish m K c) $$ [Hs0 Hs1 Ho0 Ho1 Hd Hw HO]
  · isplitr; · iexact HK
    unfold finishPre
    isplitl [Hs0]; · iapply (Entails.of_eq (sendPre_late c (by decide : 2 ≤ 8))); iexact Hs0
    isplitl [Hs1]; · iapply (Entails.of_eq (sendPre_late c (by decide : 2 ≤ 8 + 1))); iexact Hs1
    isplitl [Ho0]; · iapply (Entails.of_eq (outPre_late m c (by decide : 2 ≤ 8))); iexact Ho0
    isplitl [Ho1]; · iapply (Entails.of_eq (outPre_late m c (by decide : 2 ≤ 8 + 1))); iexact Ho1
    isplitl [Hd]; · iexact Hd
    isplitl [Hw]; · iexact Hw
    iexact HO
  unfold finishPost outFree
  iintro ⟨⟨Hb0, Hb1⟩, Hsz, ⟨⟨Hp0, Ho0⟩, ⟨Hp1, Ho1⟩⟩, Hd, Hyo, Hx, Hw, HO⟩
  -- everything put together again
  ihave Hi0 := (Entails.of_eq (show inPre m c 8 = inFree m c 0 from
    (if_neg (by decide : ¬ 8 < 8)).trans (congrArg (inFree m c) (par_even 8 rfl)))) $$ Hi0
  ihave Hi1 := (Entails.of_eq (congrArg (inFree m c) (par_odd (8 + 1) rfl))) $$ Hi1
  unfold inFree
  icases Hi0 with ⟨Hx0, Ha0, Hi0⟩
  icases Hi1 with ⟨Hx1, Ha1, Hi1⟩
  ihave Hr := (recvDone_elim c) $$ Hr
  icases Hr with ⟨Hr, Hrz⟩
  iapply Hk
  unfold afterPost ownScratch localSems
  isplitl [Hx Hx0 Hx1]
  · iapply (xPart_shares m c).2
    isplitl [Hx]; · iexact Hx
    isplitl [Hx0]; · iexact Hx0
    iexact Hx1
  isplitl [Hyo Hd]
  · iapply (result_intro m c)
    isplitl [Hyo]; · iexact Hyo
    iexact Hd
  isplitl [Ha0 Ha1 Hb0 Hb1 Hp0 Hp1]
  · isplitl [Ha0 Ha1]
    · iapply (aM_join c)
      isplitl [Ha0]; · iexact Ha0
      iexact Ha1
    isplitl [Hb0 Hb1]
    · iapply (bM_join c)
      isplitl [Hb0]; · iexact Hb0
      iexact Hb1
    iapply (oM_join c)
    isplitl [Hp0]; · iexact Hp0
    iexact Hp1
  isplitl [Hr]; · iexact Hr
  isplitl [Hi0 Hi1 Ho0 Ho1 Hw]
  · isplitl [Hi0 Hi1]
    · isplitl [Hi0]; · iexact Hi0
      iexact Hi1
    isplitl [Ho0 Ho1]
    · isplitl [Ho0]; · iexact Ho0
      iexact Ho1
    iexact Hw
  isplitl [Hsz]; · iexact Hsz
  isplitl [Hrz]; · iexact Hrz
  iexact HO

/-! ## The barrier, and the whole program -/

/-- What the launch gives a device of its shared cells: its places, what it is credited, and what it may pay. -/
def ghosts (c : Dev nD) : sProp 𝕄 :=
  iprop((atPos ER (barCell c) 0 ∅ 0 ∗ dutyTok ER (barCell (peer c)) 0 () ∗ cred (tallyAt (barCell c) () 1)) ∗ places c ∗ recvCreds c ∗ payToks c)

/-- At the start: the buffers, the semaphores of the copies inside and the shared cells' ghosts. -/
def devHeld (c : Dev nD) : sProp 𝕄 :=
  iprop(xPart m c fullShare ∗ anyBuf ((c : Thread nD τ).loc main_v1) ∗ ownScratch c ∗ anyBuf ((c : Thread nD τ).loc cc0_scratch2)
    ∗ localSems c ∗ ghosts c)

/-- And what is owed. -/
def devPre (c : Dev nD) : sProp 𝕄 := iprop(devHeld m c ∗ ∃ W, owes (c : Thread nD τ) (owedAll c) W)

/-- At the end: as after the last waits, and the barrier's semaphore at zero. -/
def devPost (c : Dev nD) : sProp 𝕄 := iprop(semVal (barCell c) 0 ∗ afterPost m c)

/-- The empty program. -/
theorem wp_end (c : Dev nD) (Q : PUnit → sProp 𝕄) : Q ⟨⟩ ⊢ Wp c (.ret ⟨⟩) Q := by
  unfold Wp
  rw [wp_ret]
  iintro H
  imodintro
  iexact H

omit [FloatOps F] in
/-- A device's receive buffer is what its signal hands to the partner. -/
theorem barPay_give (c : Dev nD) : (anyBuf ((c : Thread nD τ).loc cc0_scratch2) : sProp 𝕄) ⊢ barPay (peer c) := by
  unfold barPay anyBuf; rw [peer_peer]

/-- The program, its signal addressed to `t`, the partner. -/
theorem wp_device_to (c t : Dev nD) (ht : t = peer c) (Q : PUnit → sProp 𝕄) :
    iprop(known m K ∗ devPre m c) ⊢ iprop((devPost m c -∗ Q ⟨⟩)
      -∗ Wp c (.op (.semSignal (t : Thread nD τ) barS 1) fun _ => .op (.semWait barS 1) fun _ => afterBarrier c (.ret ⟨⟩)) Q) := by
  subst ht
  unfold devPre devHeld ghosts
  iintro ⟨#HK, ⟨Hx, Hy, Hscr, Hb, Hl, ⟨⟨HaB, HtB, HcB⟩, Hpl, Hrc, Htk⟩⟩, ⟨%W, HO⟩⟩ Hk
  ihave #HR := (show (known m K : sProp 𝕄) ⊢ records m K from sep_elim_left) $$ HK
  ihave #HL := (show (known m K : sProp 𝕄) ⊢ levAts L lv from sep_elim_right) $$ HK
  iapply (Rounds.wp_signal 𝒱₀ ER (sched m) (c : Thread nD τ) none (dst := (peer c : Thread nD τ)) (κ := K (peer c, .inl ()))
      (d := ()) (r := 0) (duty_mem m (by rw [rounds_bar]; omega)) rfl () (owedFrom c 0) rfl) $$ [HO HtB Hb]
  · isplitr; · iapply (records_inv m K (peer c, .inl ())); iexact HR
    isplitl [HO]; · iexact HO
    isplitl [HtB]; · iexact HtB
    isplitl [Hb]
    · iapply (show barPay (peer c) ⊢ (sched m).payload (barCell (peer c)) 0 () from Entails.of_eq (pay_bar m (peer c)).symm)
      iapply (barPay_give c); iexact Hb
    iapply (records_reached m K (peer c, .inl ())); iexact HR
  iintro HO
  iapply (Rounds.wp_wait_rest_token 𝒱₀ ER (sched m) (c : Thread nD τ) none (κ := K (c, .inl ()))
      (wpE_semWait_eq 𝒱₀ (c : Thread nD τ) none Set.univ) (Set.mem_univ _) () (O := owedFrom c 0) (W := W) (R := 0) (m := 0) (T := ∅)
      (by rw [Nat.zero_add, expect_of m (by rw [rounds_bar]; omega)]; rfl)) $$ [HcB HO HaB]
  · isplitr; · iapply (records_inv m K (c, .inl ())); iexact HR
    isplitl [HcB]; · iexact HcB
    isplitl [HO]; · iexact HO
    isplitr
    · iapply (mayWait c (.reg barS) le_rfl 0); iexact HL
    iexact HaB
  iintro ⟨HO, HaB, -, Hpay⟩
  ihave Hp := (Entails.of_eq ((rest_of m (by rw [rounds_bar]; omega)).trans (pay_bar m c))) $$ Hpay
  imod (Rounds.cell_close ER (sched m) (Set.mem_univ (K (c, .inl ()))) (fun h => h) (R := 0 + 1)
    (duties_over m rounds_bar.le)) $$ [HaB] with Hz
  · isplitr; · iapply (records_inv m K (c, .inl ())); iexact HR
    iexact HaB
  iapply (wp_afterBarrier m K c) $$ [Hx Hy Hscr Hl Hpl Hrc Htk Hp HO]
  · isplitr; · iexact HK
    unfold afterPre
    isplitl [Hx]; · iexact Hx
    isplitl [Hy]; · iexact Hy
    isplitl [Hscr]; · iexact Hscr
    isplitl [Hl]; · iexact Hl
    isplitl [Hpl]; · iexact Hpl
    isplitl [Hrc]; · iexact Hrc
    isplitl [Htk]; · iexact Htk
    isplitl [Hp]; · unfold barPay anyBuf; iexact Hp
    unfold owed; iexists _; iexact HO
  iintro HP
  iapply (wp_end c Q)
  iapply Hk
  unfold devPost
  isplitl [Hz]; · iexact Hz
  iexact HP

/-- The program of a device takes what the launch gives to the finished result. -/
theorem wp_device (c : Dev nD) (Q : PUnit → sProp 𝕄) :
    iprop(known m K ∗ devPre m c) ⊢ iprop((devPost m c -∗ Q ⟨⟩) -∗ Wp c (onDevice c) Q) :=
  wp_device_to m K c _ (dev1_eq c) Q

end Cert.AllToAll
-- ==== Proof.Cells.lean ====
/-
The shared cells at launch: every device's cells start their rounds, the rights to pay are dealt to the partners, and
the launch's credits are what the devices owe each other.
-/
module

public import proofs.«01_k».proof.Proof.Device
public import proofs.«01_k».proof.Proof.Gen.KernelIdeal.Launch

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring Idealize.ShloMosaic.Transfers

variable {F : FTy → Type} [FloatOps F]

local notation "𝕄" => MT nD τ sig Unit (Elt F) ℕ UU ℕ

variable (m : (ℓ : Loc nD τ sig) → Buf (Elt F) ℓ)

/-! ## The cells and the rights to pay -/

theorem csem_injective : Function.Injective csem := by
  rintro (u | s | j) (u' | s' | j') h
  · rfl
  · exact nomatch h
  · exact nomatch h
  · exact nomatch h
  · have h := congrArg Fin.val (SemLoc.dma.inj h)
    rw [sendSem_val, sendSem_val] at h
    exact congrArg (fun x => Sum.inr (Sum.inl x)) (Fin.ext (by omega))
  · have h := congrArg Fin.val (SemLoc.dma.inj h)
    rw [sendSem_val, recvSem_val] at h
    have := s.isLt
    omega
  · exact nomatch h
  · have h := congrArg Fin.val (SemLoc.dma.inj h)
    rw [sendSem_val, recvSem_val] at h
    have := s'.isLt
    omega
  · have h := congrArg Fin.val (SemLoc.dma.inj h)
    rw [recvSem_val, recvSem_val] at h
    exact congrArg (fun x => Sum.inr (Sum.inr x)) (Fin.ext (by omega))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- All shared cells. -/
def allCells : Finset (GSem nD τ sig) := Finset.univ.map ⟨kcell, kcell_injective⟩

/-- The duties of a device's own cells: the barrier's, one per departing block, one per arriving block. -/
abbrev TK : Type := Unit ⊕ (Fin 8 ⊕ Fin 8)
/-- The semaphore and round of a duty. -/
abbrev tokAt : TK → SemLoc sig × ℕ
  | .inl _ => (.reg barS, 0)
  | .inr (.inl j) => (.dma (sendSem (par j)), j.val / 2)
  | .inr (.inr j) => (.dma (recvSem j), 0)
/-- A duty of a device's own cells. -/
abbrev tokOf (ct : Dev nD × TK) : GSem nD τ sig × ℕ × Unit := (((ct.1 : Thread nD τ), (tokAt ct.2).1), (tokAt ct.2).2, ())

theorem tokAt_injective : Function.Injective tokAt := by decide

theorem tokOf_injective : Function.Injective tokOf := by
  rintro ⟨c, k⟩ ⟨c', k'⟩ h
  have h1 : c = c' := congrArg (fun x : GSem nD τ sig × ℕ × Unit => x.1.1.1) h
  have h2 : k = k' := tokAt_injective (congrArg (fun x : GSem nD τ sig × ℕ × Unit => (x.1.2, x.2.1)) h)
  rw [h1, h2]

/-- All duties. -/
def allToks : Finset (GSem nD τ sig × ℕ × Unit) := Finset.univ.map ⟨tokOf, tokOf_injective⟩

/-- The rights to pay a device's own cells. -/
def toks (c : Dev nD) : sProp 𝕄 :=
  iprop(dutyTok ER (barCell c) 0 () ∗ (bigSep Finset.univ fun j : Fin 8 => dutyTok ER (sendCell c (par j)) (j.val / 2) ())
    ∗ bigSep Finset.univ fun j : Fin 8 => dutyTok ER (recvCell c j) 0 ())

/-- What the launch makes for a device: the states of its cells, its places in them, and their rights to pay. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)

omit [FloatOps F] in
/-- The launch element of the agreed rounds makes it for every device. -/
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, bigSep_univ_sum, bigSep_univ_of_subsingleton ()]
    rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The program's own semaphores, all for transfers and copies. -/
def osem : Fin 15 → SemLoc sig := fun i => .dma i

theorem ownSemFacts : Pipeline.OwnSemFacts cfg0.spec osem := by unfold osem; decide

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
/-- They are the copies' inside the device, the send slots' and the arrivals'. -/
theorem ownSems0_eq (c : Dev nD) :
    (Pipeline.ownSems0 (Ix := Unit) (Name := ℕ) (U := UU) (Lvl := ℕ) (Val := Elt F) (τ := τ) osem c : sProp 𝕄)
      ⊣⊢ iprop(localSems c ∗ (semVal (sendCell c 0) 0 ∗ semVal (sendCell c 1) 0) ∗ bigSep Finset.univ fun j : Fin 8 => semVal (recvCell c j) 0) := by
  rw [Pipeline.ownSems0_eq_of_list c osem [0, 1, 2, 3, 4, 5, 6, 7, 8, 9, 10, 11, 12, 13, 14] (by decide) (by decide), bigSep_fin8]
  unfold localSems
  constructor
  · show iprop(semVal ((c : Thread nD τ), .dma (inSem 0)) 0 ∗ semVal ((c : Thread nD τ), .dma (inSem 1)) 0
      ∗ semVal (sendCell c 0) 0 ∗ semVal (sendCell c 1) 0 ∗ semVal (recvCell c 0) 0 ∗ semVal (recvCell c 1) 0 ∗ semVal (recvCell c 2) 0
      ∗ semVal (recvCell c 3) 0 ∗ semVal (recvCell c 4) 0 ∗ semVal (recvCell c 5) 0 ∗ semVal (recvCell c 6) 0 ∗ semVal (recvCell c 7) 0
      ∗ semVal ((c : Thread nD τ), .dma (outSem 0)) 0 ∗ semVal ((c : Thread nD τ), .dma (outSem 1)) 0 ∗ semVal ((c : Thread nD τ), .dma ownSem) 0) ⊢ _
    iintro ⟨I0, I1, S0, S1, R0, R1, R2, R3, R4, R5, R6, R7, O0, O1, W⟩
    isplitl [I0 I1 O0 O1 W]
    · isplitl [I0 I1]; · isplitl [I0] <;> iassumption
      isplitl [O0 O1]; · isplitl [O0] <;> iassumption
      iexact W
    isplitl [S0 S1]; · isplitl [S0] <;> iassumption
    isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  · show _ ⊢ iprop(semVal ((c : Thread nD τ), .dma (inSem 0)) 0 ∗ semVal ((c : Thread nD τ), .dma (inSem 1)) 0
      ∗ semVal (sendCell c 0) 0 ∗ semVal (sendCell c 1) 0 ∗ semVal (recvCell c 0) 0 ∗ semVal (recvCell c 1) 0 ∗ semVal (recvCell c 2) 0
      ∗ semVal (recvCell c 3) 0 ∗ semVal (recvCell c 4) 0 ∗ semVal (recvCell c 5) 0 ∗ semVal (recvCell c 6) 0 ∗ semVal (recvCell c 7) 0
      ∗ semVal ((c : Thread nD τ), .dma (outSem 0)) 0 ∗ semVal ((c : Thread nD τ), .dma (outSem 1)) 0 ∗ semVal ((c : Thread nD τ), .dma ownSem) 0)
    iintro ⟨⟨⟨I0, I1⟩, ⟨O0, O1⟩, W⟩, ⟨S0, S1⟩, R0, R1, R2, R3, R4, R5, R6, R7⟩
    isplitl [I0]; · iexact I0
    isplitl [I1]; · iexact I1
    isplitl [S0]; · iexact S0
    isplitl [S1]; · iexact S1
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [O0]; · iexact O0
    isplitl [O1]; · iexact O1
    iexact W

omit [FloatOps F] in
/-- The barrier's semaphore is the one that is not the program's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The semaphores at launch: the copies' inside the device, and the shared cells'. -/
theorem sems0_split (c : Dev nD) :
    iprop(Pipeline.ownSems0 (Ix := Unit) (Name := ℕ) (U := UU) (Lvl := ℕ) (Val := Elt F) (τ := τ) osem c ∗ unscopedSems0 c)
      ⊢ (iprop(localSems c ∗ bigSep Finset.univ fun k : CK => semVal (kcell (c, k)) 0) : sProp 𝕄) := by
  have e : (bigSep Finset.univ fun k : CK => (semVal (kcell (c, k)) 0 : sProp 𝕄))
      = iprop(semVal (barCell c) 0 ∗ (semVal (sendCell c 0) 0 ∗ semVal (sendCell c 1) 0) ∗ bigSep Finset.univ fun j : Fin 8 => semVal (recvCell c j) 0) := by
    rw [bigSep_univ_sum, bigSep_univ_sum, bigSep_univ_of_subsingleton (), bigSep_fin_two]
    rfl
  rw [unscopedSems0_eq, e]
  iintro ⟨Ho, HB⟩
  ihave H := (ownSems0_eq c).1 $$ Ho
  icases H with ⟨Hl, Hs, Hr⟩
  isplitl [Hl]; · iexact Hl
  isplitl [HB]; · iexact HB
  isplitl [Hs]; · iexact Hs
  iexact Hr

/-! ## Dealing it out -/

omit [FloatOps F] in
/-- A device's cells start. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c ∗ localSems c) := by
  unfold G
  iintro ⟨Hos, Hus, Hst, Hat, Htok⟩
  ihave Hv := (sems0_split (F := F) c) $$ [Hos Hus]
  · isplitl [Hos] <;> iassumption
  icases Hv with ⟨Hl, Hv⟩
  imod (show iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- What is a device's own of the shared cells: its places, and what it may pay. -/
def linear (c : Dev nD) : sProp 𝕄 := iprop((atPos ER (barCell c) 0 ∅ 0 ∗ dutyTok ER (barCell (peer c)) 0 ()) ∗ places c ∗ payToks c)

/-- What a device starts from, but for its buffers and credits. -/
def G' (c : Dev nD) : sProp 𝕄 := iprop(∃ K, records m K ∗ linear c ∗ localSems c)

omit [FloatOps F] in
/-- The rights to pay a barrier and the arrivals go to the partner. -/
theorem toks_swap :
    (bigSep Finset.univ fun c : Dev nD => (toks c : sProp 𝕄)) ⊢ bigSep Finset.univ fun c : Dev nD => iprop(dutyTok ER (barCell (peer c)) 0 () ∗ payToks c) := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (bigSep Finset.univ fun j : Fin 8 => dutyTok ER (recvCell c j) 0 () : sProp 𝕄))]
  exact Entails.refl _

omit [FloatOps F] in
/-- A device's places, cell by cell. -/
theorem places_eq (c : Dev nD) :
    (bigSep Finset.univ fun k : CK => (atPos ER (kcell (c, k)) 0 ∅ 0 : sProp 𝕄)) = iprop(atPos ER (barCell c) 0 ∅ 0 ∗ places c) := by
  unfold places
  rw [bigSep_univ_sum, bigSep_univ_sum, bigSep_univ_of_subsingleton (), bigSep_fin_two]
  rfl

/-- A device's places and its rights to pay, with the records, are what it starts from. -/
theorem deal_one (K : Dev nD × CK → ℕ) (c : Dev nD) :
    iprop(records m K ∗ (atPos ER (barCell c) 0 ∅ 0 ∗ places c) ∗ (dutyTok ER (barCell (peer c)) 0 () ∗ payToks c) ∗ localSems c)
      ⊢ (G' m c : sProp 𝕄) := by
  unfold G' linear
  iintro ⟨#HR, ⟨HaB, Hp⟩, ⟨HtB, Ht⟩, Hl⟩
  iexists K
  isplitr; · iexact HR
  isplitr [Hl]
  · isplitl [HaB HtB]; · isplitl [HaB] <;> iassumption
    isplitl [Hp] <;> iassumption
  iexact Hl

/-- So for all of them, the records going to each. -/
theorem deal_all (K : Dev nD × CK → ℕ) :
    iprop(records m K ∗ (bigSep Finset.univ fun c : Dev nD => iprop(atPos ER (barCell c) 0 ∅ 0 ∗ places c))
        ∗ (bigSep Finset.univ fun c : Dev nD => iprop(dutyTok ER (barCell (peer c)) 0 () ∗ payToks c)) ∗ bigSep Finset.univ fun c : Dev nD => localSems c)
      ⊢ (bigSep Finset.univ (G' m) : sProp 𝕄) := by
  refine (sep_mono_left (BI.bigSep_of_persistent (Finset.univ : Finset (Dev nD)) (records m K))).trans ?_
  rw [← bigSep_sep', ← bigSep_sep', ← bigSep_sep']
  exact bigSep_mono fun c _ => deal_one m K c

/-- The devices' cells, places and rights to pay, dealt out. -/
theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)),
    bigSep_congr (s := Finset.univ) (fun (c : Dev nD) _ => places_eq c)]
  iintro ⟨HI, ⟨Hat, #HR⟩, Htok, Hl⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_swap (F := F)) $$ Htok
  iapply (deal_all m K)
  isplitr
  · unfold records; isplitl; · iexact HI
    iexact HR
  isplitl [Hat]; · iexact Hat
  isplitl [Htk]; · iexact Htk
  iexact Hl

/-- All devices at once: their cells start and everything is dealt out. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem peer_eq_iff {c d : Dev nD} : c = peer d ↔ d = peer c :=
  ⟨fun h => by rw [h, peer_peer], fun h => by rw [h, peer_peer]⟩

/-- What device `d` owes the cells another device waits on. -/
theorem owed_bar (d c : Dev nD) : owedAll d (barCell c) () = if d = peer c then 1 else 0 := by
  unfold owedAll
  have h0 : owedFrom d 0 (barCell c) () = 0 := by
    by_contra h
    obtain ⟨j, hj⟩ := owedFrom_pos (Nat.pos_of_ne_zero h)
    exact absurd (congrArg Prod.snd hj) (fun h => by cases h)
  rw [Pi.add_apply, Finsupp.add_apply, h0, Nat.zero_add, tallyAt_apply]
  refine if_congr ⟨fun h => ?_, fun h => ⟨?_, rfl⟩⟩ rfl rfl
  · exact peer_eq_iff.mp (congrArg (fun g : GSem nD τ sig => g.1.1) h.1)
  · rw [h, peer_peer]

theorem owed_recv (d c : Dev nD) (j : Fin 8) : owedAll d (recvCell c j) () = if d = peer c then N else 0 := by
  unfold owedAll owedFrom
  rw [Pi.add_apply, Finsupp.add_apply, tallyAt_apply, if_neg (fun h => by cases congrArg Prod.snd h.1), Nat.add_zero,
    Finset.sum_apply, Finsupp.finset_sum_apply, rangeSet_univ]
  rw [Finset.sum_eq_single j (fun j' _ hj => ?_) (fun h => absurd (Finset.mem_univ j) h), tallyAt_apply]
  · refine if_congr ⟨fun h => ?_, fun h => ⟨?_, rfl⟩⟩ rfl rfl
    · exact peer_eq_iff.mp (congrArg (fun g : GSem nD τ sig => g.1.1) h.1)
    · rw [h, peer_peer]
  · rw [tallyAt_apply, if_neg]
    rintro ⟨h, -⟩
    have h := congrArg Fin.val (SemLoc.dma.inj (congrArg Prod.snd h))
    rw [recvSem_val, recvSem_val] at h
    exact hj (Fin.ext (by omega))

/-- The cells a device is credited at. -/
def credSem : Unit ⊕ Fin 8 ↪ SemLoc sig :=
  ⟨fun | .inl _ => .reg barS | .inr j => .dma (recvSem j), by decide⟩

omit [FloatOps F] in
/-- The launch's credits at one cell are what its device's partner owes there. -/
theorem launch_cell (c : Dev nD) (sm : SemLoc sig) (n : ℕ) (h : ∀ d, owedAll d ((c : Thread nD τ), sm) () = if d = peer c then n else 0) :
    tallyOn ((c : Thread nD τ), sm) (launchCredit (Pipeline.owing owedAll) 0 ((c : Thread nD τ), sm))
      = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ (peer c) fun _ => n, if_pos (Finset.mem_univ _)]

omit [FloatOps F] in
/-- The launch's credits of a device: one barrier unit and eight blocks. -/
theorem creds (c : Dev nD) :
    (Pipeline.launchCred owedAll c : sProp 𝕄) ⊢ iprop(cred (tallyAt (barCell c) () 1) ∗ recvCreds c) := by
  unfold Pipeline.launchCred recvCreds
  rw [bigSep_sdiff_split (Finset.subset_univ (Finset.univ.map credSem)), bigSep_map, bigSep_univ_sum, bigSep_univ_of_subsingleton ()]
  refine sep_elim_left.trans (Laws.sep_mono ?_ (bigSep_mono fun j _ => ?_))
  · exact Entails.of_eq (congrArg cred (launch_cell c (.reg barS) 1 fun d => owed_bar d c))
  · exact Entails.of_eq (congrArg cred (launch_cell c (.dma (recvSem j)) N fun d => owed_recv d c j))

end Cert.AllToAll
-- ==== Proof.Launch.lean ====
/-
The program's run on all devices: what each device starts from and ends with, and the run from any memory with zero
counters.
-/
module

public import proofs.«01_k».proof.Proof.Cells
public import proofs.«01_k».proof.Proof.Result
public import Idealize.ShloMosaic.Lib.Pipeline.Launch
public import Idealize.ShloMosaic.Lib.Pipeline.CollectiveSegs
public import Idealize.ShloMosaic.Lib.Quiescent
public import Idealize.ShloMosaic.Lib.Tactic

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring Idealize.ShloMosaic.Transfers
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-! ## Before and after -/

/-- A device before its program runs: the shared cells' records and what it holds. -/
def before (c : Dev nD) : sProp 𝕄 := iprop(∃ K, known m K ∗ devHeld m c)

/-- A device after its program ran: the input, the result, the scratch buffers, every semaphore at zero. -/
def after (c : Dev nD) : sProp 𝕄 :=
  iprop(semVal (barCell c) 0 ∗ xPart m c fullShare ∗ ((c : Thread nD τ).loc main_v1 ↦{fullShare} T m c)
    ∗ ownScratch c ∗ anyBuf ((c : Thread nD τ).loc cc0_scratch2) ∗ localSems c
    ∗ (semVal (sendCell c 0) 0 ∗ semVal (sendCell c 1) 0) ∗ bigSep Finset.univ fun j : Fin 8 => semVal (recvCell c j) 0)

/-- The call has no windows and one point: before it the device owes everything, after it nothing. -/
def dats (_ : Fin 1) (c : Dev nD) : Dat τ (Elt F) Unit ℕ UU ℕ cfg0 c where
  A w := m ((cfg0.win w).arr.view.loc (c : Thread nD τ))
  after w _ := Fin.elim0 w
  Φ t := match t with
    | ⟨0, _⟩ => before m c
    | ⟨_ + 1, _⟩ => after m c
  q _ := fullShare
  owed t := match t with
    | ⟨0, _⟩ => owedAll c
    | ⟨_ + 1, _⟩ => 0

omit [FloatOps F] in
/-- Nothing is staged. -/
theorem bigSep_windows (Φ : Fin cfg0.W → sProp 𝕄) : bigSep Finset.univ Φ = iprop(emp) := by
  rw [show (Finset.univ : Finset (Fin cfg0.W)) = ∅ from Finset.eq_empty_of_isEmpty _, bigSep_empty]
  rfl

/-- The program at the one point takes a device from before to after. -/
theorem wp_point (c : Dev nD) (Q : PUnit → sProp 𝕄) :
    iprop(before m c ∗ ∃ W, owes (c : Thread nD τ) (owedAll c) W)
      ⊢ iprop((iprop(after m c ∗ ∃ W, owes (c : Thread nD τ) 0 W) -∗ Q ⟨⟩) -∗ Wp c (bodyAt0 (F := F) t0_0) Q) := by
  rw [body_eq]
  simp only [Wp, wp_deviceId]
  unfold before
  iintro ⟨⟨%K, #HK, Hh⟩, HO⟩ Hk
  iapply (wp_device m K c Q) $$ [Hh HO]
  · isplitr; · iexact HK
    unfold devPre
    isplitl [Hh] <;> iassumption
  iintro Hd
  iapply Hk
  unfold devPost afterPost after owed
  icases Hd with ⟨HB, Hx, Hy, Hs, Hb, Hl, Hsd, Hr, HO⟩
  isplitr [HO]
  · isplitl [HB]; · iexact HB
    isplitl [Hx]; · iexact Hx
    isplitl [Hy]; · iexact Hy
    isplitl [Hs]; · iexact Hs
    isplitl [Hb]; · iexact Hb
    isplitl [Hl]; · iexact Hl
    isplitl [Hsd]; · iexact Hsd
    iexact Hr
  rw [owedFrom_end]
  iexact HO

/-- The library's obligation on the program's body. -/
theorem body_obligation (c : Dev nD) : BodyObligation (dats (F := F) m 0 c) (defs₀ (F := F)) 𝒱₀ () Set.univ := fun t => by
  rw [fin_N0 t, bigSep_windows, bigSep_windows]
  show iprop(before m c ∗ Pipeline.owesWithin c (owedAll c) ((dats m 0 c).bound () t0_0.castSucc) ∗ emp)
    ⊢ Wp c (bodyAt0 (F := F) t0_0) fun _ => iprop(after m c ∗ Pipeline.owesWithin c 0 ((dats m 0 c).bound () t0_0.succ) ∗ emp)
  unfold Pipeline.owesWithin
  iintro ⟨Hb, ⟨%W, -, HO⟩, -⟩
  iapply (wp_point m c _) $$ [Hb HO]
  · isplitl [Hb]; · iexact Hb
    iexists W; iexact HO
  iintro ⟨Ha, ⟨%W', HO⟩⟩
  isplitl [Ha]; · iexact Ha
  isplitl
  · iexists W'
    isplitr; · ipureintro; exact fun _ _ => Or.inl trivial
    iexact HO
  iempintro

/-! ## Into the call and out of it -/

/-- What a device has at the call, but for its scratch buffers. -/
def start (c : Dev nD) : sProp 𝕄 :=
  iprop(xPart m c fullShare ∗ anyBuf ((c : Thread nD τ).loc main_v1) ∗ levAts L lv
    ∗ (cred (tallyAt (barCell c) () 1) ∗ recvCreds c) ∗ G' m c)

/-- What it has after the call, but for its scratch buffers. -/
def finished (c : Dev nD) : sProp 𝕄 :=
  iprop(unscopedSems0 c ∗ xPart m c fullShare ∗ ((c : Thread nD τ).loc main_v1 ↦{fullShare} T m c))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' m c)
      ⊢ |={Set.univ}=> iprop(start m c ∗ emp) := by
  rw [Pipeline.unscopedRestP_none, unscopedRest0_eq]
  iintro ⟨⟨Hx, Hy⟩, Hlev, Hcr, -, HG⟩
  ihave Hc := (creds (F := F) c) $$ Hcr
  imodintro
  unfold start
  isplitl
  · isplitl [Hx]; · unfold xPart xVal; iexact Hx
    isplitl [Hy]; · unfold anyBuf; iexists _; iexact Hy
    isplitl [Hlev]; · iexact Hlev
    isplitl [Hc]; · iexact Hc
    iexact HG
  · iempintro

theorem call_enter (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ before m c
  rw [scopedRest0_eq]
  unfold start before G' linear known devHeld ghosts ownScratch anyBuf
  iintro ⟨⟨Hx, Hy, Hlev, ⟨HcB, Hcr⟩, ⟨%K, HR, ⟨⟨HaB, HtB⟩, Hpl, Hpt⟩, Hl⟩⟩, -, ⟨H0, H1, H2, H3⟩⟩
  iexists K
  isplitl [HR Hlev]; · isplitl [HR] <;> iassumption
  isplitl [Hx]; · iexact Hx
  isplitl [Hy]; · iexact Hy
  isplitl [H0 H1 H3]
  · isplitl [H0]; · iexact H0
    isplitl [H1] <;> iassumption
  isplitl [H2]; · iexact H2
  isplitl [Hl]; · iexact Hl
  isplitl [HaB HtB HcB]
  · isplitl [HaB]; · iexact HaB
    isplitl [HtB] <;> iassumption
  isplitl [Hpl]; · iexact Hpl
  isplitl [Hcr] <;> iassumption

theorem call_exit (c : Dev nD) :
    (dats m 0 c).Φ (Fin.last cfg0.N) ⊢ iprop(finished m c ∗ Pipeline.ownSems0 osem c ∗ Pipeline.scopedRest cfg0.spec c) := by
  show after m c ⊢ _
  rw [scopedRest0_eq]
  unfold after finished ownScratch anyBuf
  rw [unscopedSems0_eq]
  iintro ⟨HB, Hx, Hy, ⟨H0, H1, H3⟩, H2, Hl, Hs, Hr⟩
  isplitl [HB Hx Hy]
  · isplitl [HB]; · iexact HB
    isplitl [Hx] <;> iassumption
  isplitl [Hl Hs Hr]
  · iapply (ownSems0_eq (F := F) c).2
    isplitl [Hl]; · iexact Hl
    isplitl [Hs] <;> iassumption
  isplitl [H0]; · iexact H0
  isplitl [H1]; · iexact H1
  isplitl [H2] <;> iassumption

/-- What the finished device's memory holds: its counters at zero, the input as it was, the result. -/
theorem finish_read (c : Dev nD) (s : Phys nD τ sig (Elt F)) :
    iprop(finished m c ∗ emp ∗ SI s) ⊢ |={Set.univ}=> iprop(⌜(∀ sm : SemLoc sig, sm.isScoped .tc = false → s.mem.sem ((c.tc : Thread nD τ), sm) = 0)
        ∧ s.mem.mem ((c : Thread nD τ).loc main_arg0) = m ((c : Thread nD τ).loc main_arg0)
        ∧ s.mem.mem ((c : Thread nD τ).loc main_v1) = T m c⌝ ∗ SI s) := by
  unfold finished xPart
  iintro ⟨⟨Hu, Hx, Hy⟩, -, HSI⟩
  icombine HSI Hx gives %hx
  icombine HSI Hy gives %hy
  imod (Pipeline.unscopedSems0_read (X := unscopedSems0 c) (c := c) fupd_intro s) $$ [Hu HSI] with ⟨%hu, HSI⟩
  · isplitl [Hu] <;> iassumption
  imodintro
  isplitr
  · ipureintro
    exact ⟨hu, funext fun i => hx i (Finset.mem_univ i), funext fun i => hy i (Finset.mem_univ i)⟩
  iexact HSI

theorem waits (c : Dev nD) : (levAts L lv : sProp 𝕄) ⊢ Pipeline.cellsWaits cfgs (dats m) () 0 c :=
  Pipeline.cellsWaits_intro cfgs (dats m) () 0 c fun w => w.elim0

theorem share_eq (c : Dev nD) (w : Fin cfg0.W) : (dats m 0 c).share w = fullShare := w.elim0

/-! ## The run -/

/-- The launch element: the pipeline's, which stages nothing, the shared cells', and no copies' counters. -/
def u₀ : UU :=
  (initOf (Pipeline.cells cfgs cellOf_inj) (Pipeline.launchToks cfgs cellOf_inj), (Emb.inl : Emb UB (UB × Counters)) (initOf allCells allToks))

/-- It makes every device's part. -/
theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX' := (Entails.of_eq (show BI.own (embR ((Emb.inl : Emb UB (UB × Counters)) (initOf allCells allToks))) = (BI.own (ER (initOf allCells allToks)) : sProp 𝕄) from rfl)) $$ HX
  imod (fund_cells m) $$ HX' with HG
  imodintro
  isplitl [HP] <;> iassumption

set_option maxRecDepth 8000 in
/-- From any memory with zero counters, over any float values, every weakly fair execution of the program on the eight
    devices ends, with each device's input unchanged, its result the exchanged blocks and every counter at zero. -/
theorem run_main (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_v1) = T m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := owedAll) (howed₀ := fun _ => rfl) (howedN := fun _ => rfl)
    (L := L) (lv := lv) (hL := L_of_ne) (hwaits := waits m)
    (G := G m) (G' := G' m) (u₀ := u₀) (hu₀ := fund_all m) (hglob := glob m)
    (hA := fun _ _ => rfl) (hpf := fun _ k => k.elim0)
    (X := start m) (Y := finished m) (Z := fun _ => iprop(emp))
    (hX := start_intro m ρ) (hin := call_enter m) (hout := call_exit m)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_v1) = T m c)
    (hY := finish_read m)
    (hQ := fun _ h hs => ⟨fun c => (h c).2.2.2, sem_eq_zero hs fun c => (h c).2.2.1⟩)

end Cert.AllToAll
-- ==== Proof.Reference.lean ====
/-
The reference's run: it returns its argument, and no operation runs.
-/
module

public import proofs.«01_k».proof.Proof.Gen.ReferenceIdeal
public import Idealize.ShloMosaic.Lib.StableHlo.Run
public import Idealize.ShloMosaic.Lib.Quiescent

@[expose] public section

noncomputable section

namespace Cert.AllToAll.Whole

open Cert.ReferenceIdeal
open Idealize.ShloMosaic Idealize.ShloMosaic.TcCoe Idealize.SL.Sem

variable {F : FTy → Type} [FloatOps F]

/-- From any memory with zero counters, over any float values, the reference ends with its array unchanged and every
    counter at zero. -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)) ∧ r.2.sem = fun _ => 0) :=
  (θ_run defs _ _).mono (fun r h => ⟨fun c => h c main_arg0, sem_eq_zero_of_no_sems (by decide) r.2⟩)
    (StableHlo.run_seq (by decide) (by decide) defs (main (F := F)) (fun _ => []) (fun _ => rfl) (fun _ => trivial) m ρ)

end Cert.AllToAll.Whole
-- ==== Proof.lean ====
/-
The claims of the statement about the all-to-all over the mesh axis x, assembled: the run of the kernel on the eight devices
(Proof/Launch.lean), the reference's run (Proof/Reference.lean) and the layout of the result (Proof/Result.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem
open Cert.AllToAll (T T_layout run_main)

/-- The kernel ends with its inputs unchanged and every counter at zero. -/
theorem frame_kernel : Cert.quiescent_Kernel := fun m ρ _ =>
  (θ_run Cert.KernelIdeal.defs _ _).mono (fun _ h => ⟨fun c => (h.1 c).1, h.2⟩) (run_main (F := Bits) m ρ)

/-- So does the kernel over the extended reals. -/
theorem frame_kernelIdeal : Cert.quiescent_KernelIdeal := fun m ρ _ =>
  (θ_run Cert.KernelIdeal.defs _ _).mono (fun _ h => ⟨fun c => (h.1 c).1, h.2⟩) (run_main (F := Ideal) m ρ)

/-- So does the reference over the extended reals. -/
theorem frame_referenceIdeal : Cert.quiescent_ReferenceIdeal := fun m ρ _ =>
  Cert.AllToAll.Whole.run_main (F := Ideal) m ρ

/-- So does the reference. -/
theorem frame_reference : Cert.quiescent_Reference := fun m ρ _ =>
  Cert.AllToAll.Whole.run_main (F := Bits) m ρ

/-- Over the extended reals: from the row blocks of one array, each device ends with its column block of it. -/
theorem algebraic : Cert.algebraic_KernelIdeal_ReferenceIdeal := fun m ρ m' ρ' _ hin =>
  ⟨_, (θ_run Cert.KernelIdeal.defs _ _).mono (fun _ h c => ⟨(h.1 c).2.trans (T_layout m _ hin c), (h.1 c).1⟩) (run_main (F := Ideal) m ρ),
    (θ_run Cert.ReferenceIdeal.defs _ _).mono (fun _ h => ⟨h.1 0, h.1 0⟩) (Cert.AllToAll.Whole.run_main (F := Ideal) m' ρ')⟩

/-- Word for word: from the row blocks of one array, each device ends with its column block of it. -/
theorem bitexact : Cert.bitexact_Kernel_Reference := fun m ρ m' ρ' _ hin =>
  ⟨_, (θ_run Cert.KernelIdeal.defs _ _).mono (fun _ h c => ⟨(h.1 c).2.trans (T_layout (F := Bits) m _ hin c), (h.1 c).1⟩) (run_main (F := Bits) m ρ),
    (θ_run Cert.ReferenceIdeal.defs _ _).mono (fun _ h => ⟨h.1 0, h.1 0⟩) (Cert.AllToAll.Whole.run_main (F := Bits) m' ρ')⟩

/-- All claims. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
